-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v128)) (v1 : (c : Dev Cert.KernelIdeal.nD) → Buf (Elt Ideal) ((c.tc : Thread Cert.KernelIdeal.nD Cert.KernelIdeal.τ).loc Cert.KernelIdeal.main_v126)) (v2 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_v127) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x1024 : Shape := ⟨2, ![128, 1024]⟩
abbrev S8x128 : Shape := ⟨2, ![8, 128]⟩
abbrev S128 : Shape := ⟨1, ![128]⟩
abbrev S128x2x128x1 : Shape := ⟨4, ![128, 2, 128, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x320000 : S_.BroadcastsInDim S2x320000 (![] : Fin 0 → Fin S2x320000.rank)
  reducesTo_S2x320000_S_d0_1 : S2x320000.ReducesTo [0, 1] S_
  bcast_S_S128x1024 : S_.BroadcastsInDim S128x1024 (![] : Fin 0 → Fin S128x1024.rank)
  reducesTo_S128x1024_S_d0_1 : S128x1024.ReducesTo [0, 1] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S8x128 .f32) (main_arg8 : FVec F S8x128 .f32) (main_v30 : IVec S_ 1) (main_v33 : IVec S128x1024 1) : IVec S_ 1 :=
  let main_c_12 : IVec S_ 1 := constantI S_ 1 1#1
  let main_v34 : IVec S_ 1 := (fun x v => Host.reduce IntOp.andi x v reducesTo_S128x1024_S_d0_1 h_S_) main_v33 main_c_12
  let main_v35 : IVec S_ 1 := andi main_v30 main_v34
  let main_v36 : FVec F S8x128 .f32 := Host.absf main_arg7
  let main_cst_13 : FVec F S_ .f32 := constant S_ .f32 0x7F800000#32
  let main_v37 : FVec F S8x128 .f32 := broadcastInDim S8x128 ![] bcast_S_S8x128 main_cst_13
  let main_v38 : IVec S8x128 1 := cmpf .olt main_v36 main_v37
  let main_c_14 : IVec S_ 1 := constantI S_ 1 1#1
  let main_v39 : IVec S_ 1 := (fun x v => Host.reduce IntOp.andi x v reducesTo_S8x128_S_d0_1 h_S_) main_v38 main_c_14
  let main_v40 : IVec S_ 1 := andi main_v35 main_v39
  let main_v41 : FVec F S8x128 .f32 := Host.absf main_arg8
  let main_cst_15 : FVec F S_ .f32 := constant S_ .f32 0x7F800000#32
  let main_v42 : FVec F S8x128 .f32 := broadcastInDim S8x128 ![] bcast_S_S8x128 main_cst_15
  let main_v43 : IVec S8x128 1 := cmpf .olt main_v41 main_v42
  let main_c_16 : IVec S_ 1 := constantI S_ 1 1#1
  let main_v44 : IVec S_ 1 := (fun x v => Host.reduce IntOp.andi x v reducesTo_S8x128_S_d0_1 h_S_) main_v43 main_c_16
  let main_v45 : IVec S_ 1 := andi main_v40 main_v44
  main_v45

def fn_part1 {F : FTy → Type} [FloatOps F] (main_arg4 : FVec F S8x128 .f32) (main_arg5 : FVec F S128 .f32) (main_arg6 : FVec F S128x1024 .f32) (main_arg7 : FVec F S8x128 .f32) (main_arg8 : FVec F S8x128 .f32) (main_v15 : IVec S_ 1) (main_v16 : FVec F S8x128 .f32) : IVec S_ 1 :=
  let main_cst_5 : FVec F S_ .f32 := constant S_ .f32 0x7F800000#32
  let main_v17 : FVec F S8x128 .f32 := broadcastInDim S8x128 ![] bcast_S_S8x128 main_cst_5
  let main_v18 : IVec S8x128 1 := cmpf .olt main_v16 main_v17
  let main_c_6 : IVec S_ 1 := constantI S_ 1 1#1
  let main_v19 : IVec S_ 1 := (fun x v => Host.reduce IntOp.andi x v reducesTo_S8x128_S_d0_1 h_S_) main_v18 main_c_6
  let main_v20 : IVec S_ 1 := andi main_v15 main_v19
  let main_v21 : FVec F S8x128 .f32 := Host.absf main_arg4
  let main_cst_7 : FVec F S_ .f32 := constant S_ .f32 0x7F800000#32
  let main_v22 : FVec F S8x128 .f32 := broadcastInDim S8x128 ![] bcast_S_S8x128 main_cst_7
  let main_v23 : IVec S8x128 1 := cmpf .olt main_v21 main_v22
  let main_c_8 : IVec S_ 1 := constantI S_ 1 1#1
  let main_v24 : IVec S_ 1 := (fun x v => Host.reduce IntOp.andi x v reducesTo_S8x128_S_d0_1 h_S_) main_v23 main_c_8
  let main_v25 : IVec S_ 1 := andi main_v20 main_v24
  let main_v26 : FVec F S128 .f32 := Host.absf main_arg5
  let main_cst_9 : FVec F S_ .f32 := constant S_ .f32 0x7F800000#32
  let main_v27 : FVec F S128 .f32 := broadcastInDim S128 ![] bcast_S_S128 main_cst_9
  let main_v28 : IVec S128 1 := cmpf .olt main_v26 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v25 main_v29
  let main_v31 : FVec F S128x1024 .f32 := Host.absf main_arg6
  let main_cst_11 : FVec F S_ .f32 := constant S_ .f32 0x7F800000#32
  let main_v32 : FVec F S128x1024 .f32 := broadcastInDim S128x1024 ![] bcast_S_S128x1024 main_cst_11
  let main_v33 : IVec S128x1024 1 := cmpf .olt main_v31 main_v32
  fn_part2 (F := F) main_arg7 main_arg8 main_v30 main_v33

def fn {F : FTy → Type} [FloatOps F] (main_arg0 : FVec F S10000x128 .f32) (main_arg1 : IVec S2x320000 32) (main_arg2 : FVec F S128x1024 .f32) (main_arg3 : FVec F S8x128 .f32) (main_arg4 : FVec F S8x128 .f32) (main_arg5 : FVec F S128 .f32) (main_arg6 : FVec F S128x1024 .f32) (main_arg7 : FVec F S8x128 .f32) (main_arg8 : FVec F S8x128 .f32) (main_arg9 : FVec F S128 .f32) (main_arg10 : FVec F S128x2x128x1 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_c_0 : IVec S_ 32 := constantI S_ 32 0#32
  let main_v4 : IVec S2x320000 32 := broadcastInDim S2x320000 ![] bcast_S_S2x320000 main_c_0
  let main_v5 : IVec S2x320000 1 := cmpi .sge main_arg1 main_v4
  let main_c_1 : IVec S_ 32 := constantI S_ 32 10000#32
  let main_v6 : IVec S2x320000 32 := broadcastInDim S2x320000 ![] bcast_S_S2x320000 main_c_1
  let main_v7 : IVec S2x320000 1 := cmpi .slt main_arg1 main_v6
  let main_v8 : IVec S2x320000 1 := andi main_v5 main_v7
  let main_c_2 : IVec S_ 1 := constantI S_ 1 1#1
  let main_v9 : IVec S_ 1 := (fun x v => Host.reduce IntOp.andi x v reducesTo_S2x320000_S_d0_1 h_S_) main_v8 main_c_2
  let main_v10 : IVec S_ 1 := andi main_v3 main_v9
  let main_v11 : FVec F S128x1024 .f32 := Host.absf main_arg2
  let main_cst_3 : FVec F S_ .f32 := constant S_ .f32 0x7F800000#32
  let main_v12 : FVec F S128x1024 .f32 := broadcastInDim S128x1024 ![] bcast_S_S128x1024 main_cst_3
  let main_v13 : IVec S128x1024 1 := cmpf .olt main_v11 main_v12
  let main_c_4 : IVec S_ 1 := constantI S_ 1 1#1
  let main_v14 : IVec S_ 1 := (fun x v => Host.reduce IntOp.andi x v reducesTo_S128x1024_S_d0_1 h_S_) main_v13 main_c_4
  let main_v15 : IVec S_ 1 := andi main_v10 main_v14
  let main_v16 : FVec F S8x128 .f32 := Host.absf main_arg3
  fn_part1 (F := F) main_arg4 main_arg5 main_arg6 main_arg7 main_arg8 main_v15 main_v16
-- ==== Kernel.lean ====
abbrev S10000x128 : Shape := ⟨2, ![10000, 128]⟩
abbrev S2x320000 : Shape := ⟨2, ![2, 320000]⟩
abbrev S128x1024 : Shape := ⟨2, ![128, 1024]⟩
abbrev S8x128 : Shape := ⟨2, ![8, 128]⟩
abbrev S128 : Shape := ⟨1, ![128]⟩
abbrev S128x2x128x1 : Shape := ⟨4, ![128, 2, 128, 1]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S10240x128 : Shape := ⟨2, ![10240, 128]⟩
abbrev S128x128 : Shape := ⟨2, ![128, 128]⟩
abbrev S1x128 : Shape := ⟨2, ![1, 128]⟩
abbrev S10240x1024 : Shape := ⟨2, ![10240, 1024]⟩
abbrev S8x10240 : Shape := ⟨2, ![8, 10240]⟩
abbrev S256x128 : Shape := ⟨2, ![256, 128]⟩
abbrev S256x1024 : Shape := ⟨2, ![256, 1024]⟩
abbrev S8x256 : Shape := ⟨2, ![8, 256]⟩
abbrev S128x256 : Shape := ⟨2, ![128, 256]⟩
abbrev S330000x1 : Shape := ⟨2, ![330000, 1]⟩
abbrev S8x330000 : Shape := ⟨2, ![8, 330000]⟩
abbrev S330000x8 : Shape := ⟨2, ![330000, 8]⟩
abbrev S10000x8 : Shape := ⟨2, ![10000, 8]⟩
abbrev S330000x1024 : Shape := ⟨2, ![330000, 1024]⟩
abbrev S330000x8x128 : Shape := ⟨3, ![330000, 8, 128]⟩
abbrev S330000x8x1 : Shape := ⟨3, ![330000, 8, 1]⟩
abbrev S330000x128 : Shape := ⟨2, ![330000, 128]⟩
abbrev S1x10240x128 : Shape := ⟨3, ![1, 10240, 128]⟩
abbrev S2x10240x128 : Shape := ⟨3, ![2, 10240, 128]⟩
abbrev S2x256x128 : Shape := ⟨3, ![2, 256, 128]⟩
abbrev S1x256x128 : Shape := ⟨3, ![1, 256, 128]⟩
abbrev S128x1x128x1 : Shape := ⟨4, ![128, 1, 128, 1]⟩
abbrev S512x128 : Shape := ⟨2, ![512, 128]⟩
abbrev S9728x128 : Shape := ⟨2, ![9728, 128]⟩
abbrev S512x9728 : Shape := ⟨2, ![512, 9728]⟩
abbrev S512x512 : Shape := ⟨2, ![512, 512]⟩
abbrev S504x128 : Shape := ⟨2, ![504, 128]⟩
abbrev S9496x128 : Shape := ⟨2, ![9496, 128]⟩
abbrev S504x9496 : Shape := ⟨2, ![504, 9496]⟩

abbrev nBuf : Space → Nat
  | .hbm => 192
  | .vmem => 50
  | .smem => 0
  | _ => 0

abbrev hbmTy0_0 (i : Nat) : BufTy := match i % 128 with
  | 0 => ⟨S10000x128, .f32⟩
  | 1 => ⟨S2x320000, .i32⟩
  | 2 => ⟨S128x1024, .f32⟩
  | 3 => ⟨S8x128, .f32⟩
  | 4 => ⟨S8x128, .f32⟩
  | 5 => ⟨S128, .f32⟩
  | 6 => ⟨S128x1024, .f32⟩
  | 7 => ⟨S8x128, .f32⟩
  | 8 => ⟨S8x128, .f32⟩
  | 9 => ⟨S128, .f32⟩
  | 10 => ⟨S128x2x128x1, .f32⟩
  | 11 => ⟨S128, .f32⟩
  | 12 => ⟨S1x320000, .i32⟩
  | 13 => ⟨S320000, .i32⟩
  | 14 => ⟨S10000, .i32⟩
  | 15 => ⟨S330000, .i32⟩
  | 16 => ⟨S1x320000, .i32⟩
  | 17 => ⟨S320000, .i32⟩
  | 18 => ⟨S10000, .i32⟩
  | 19 => ⟨S330000, .i32⟩
  | 20 => ⟨S_, .i32⟩
  | 21 => ⟨S_, .f32⟩
  | 22 => ⟨S10240x128, .f32⟩
  | 23 => ⟨S8x128, .f32⟩
  | 24 => ⟨S8x128, .f32⟩
  | 25 => ⟨S8x128, .f32⟩
  | 26 => ⟨S8x128, .f32⟩
  | 27 => ⟨S10240x1024, .f32⟩
  | 28 => ⟨S8x10240, .f32⟩
  | 29 => ⟨S8x10240, .f32⟩
  | 30 => ⟨S_, .i32⟩
  | 31 => ⟨S330000, .i32⟩
  | 32 => ⟨S330000, .i1⟩
  | 33 => ⟨S_, .i32⟩
  | 34 => ⟨S330000, .i32⟩
  | 35 => ⟨S330000, .i32⟩
  | 36 => ⟨S330000, .i32⟩
  | 37 => ⟨S330000x1, .i32⟩
  | 38 => ⟨S8x330000, .f32⟩
  | 39 => ⟨S330000x8, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S8x330000, .f32⟩
  | 49 => ⟨S330000x8, .f32⟩
  | 50 => ⟨S330000x8, .f32⟩
  | 51 => ⟨S_, .f32⟩
  | 52 => ⟨S_, .f32⟩
  | 53 => ⟨S330000x8, .f32⟩
  | 54 => ⟨S330000x8, .i1⟩
  | 55 => ⟨S_, .f32⟩
  | 56 => ⟨S330000x8, .f32⟩
  | 57 => ⟨S330000x8, .f32⟩
  | 58 => ⟨S330000x8, .f32⟩
  | 59 => ⟨S330000x8, .f32⟩
  | 60 => ⟨S_, .f32⟩
  | 61 => ⟨S10000x8, .f32⟩
  | 62 => ⟨S330000x1, .i32⟩
  | 63 => ⟨S10000x8, .f32⟩
  | 64 => ⟨S_, .i32⟩
  | 65 => ⟨S330000, .i32⟩
  | 66 => ⟨S330000, .i1⟩
  | 67 => ⟨S_, .i32⟩
  | 68 => ⟨S330000, .i32⟩
  | 69 => ⟨S330000, .i32⟩
  | 70 => ⟨S330000, .i32⟩
  | 71 => ⟨S330000x1, .i32⟩
  | 72 => ⟨S330000x8, .f32⟩
  | 73 => ⟨S330000x8, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S330000x1024, .f32⟩
  | 83 => ⟨S330000x8x128, .f32⟩
  | 84 => ⟨S330000x8x1, .f32⟩
  | 85 => ⟨S330000x8x128, .f32⟩
  | 86 => ⟨S330000x8x128, .f32⟩
  | 87 => ⟨S_, .f32⟩
  | 88 => ⟨S330000x128, .f32⟩
  | 89 => ⟨S_, .f32⟩
  | 90 => ⟨S10000x128, .f32⟩
  | 91 => ⟨S330000x1, .i32⟩
  | 92 => ⟨S10000x128, .f32⟩
  | 93 => ⟨S_, .i32⟩
  | 94 => ⟨S_, .f32⟩
  | 95 => ⟨S10240x128, .f32⟩
  | 96 => ⟨S_, .f32⟩
  | 97 => ⟨S10240x128, .f32⟩
  | 98 => ⟨S1x10240x128, .f32⟩
  | 99 => ⟨S1x10240x128, .f32⟩
  | 100 => ⟨S2x10240x128, .f32⟩
  | 101 => ⟨S1x128, .f32⟩
  | 102 => ⟨S10240x128, .f32⟩
  | 103 => ⟨S10240x1024, .f32⟩
  | 104 => ⟨S8x10240, .f32⟩
  | 105 => ⟨S8x10240, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S8x330000, .f32⟩
  | 115 => ⟨S330000x8, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S8x330000, .f32⟩
  | 125 => ⟨S330000x8, .f32⟩
  | 126 => ⟨S330000x8, .f32⟩
  | 127 => ⟨S_, .f32⟩
  | _ => ⟨S10000x128, .f32⟩

abbrev hbmTy0_1 (i : Nat) : BufTy := match i % 128 with
  | 0 => ⟨S_, .f32⟩
  | 1 => ⟨S330000x8, .f32⟩
  | 2 => ⟨S330000x8, .i1⟩
  | 3 => ⟨S_, .f32⟩
  | 4 => ⟨S330000x8, .f32⟩
  | 5 => ⟨S330000x8, .f32⟩
  | 6 => ⟨S330000x8, .f32⟩
  | 7 => ⟨S330000x8, .f32⟩
  | 8 => ⟨S_, .f32⟩
  | 9 => ⟨S10000x8, .f32⟩
  | 10 => ⟨S330000x1, .i32⟩
  | 11 => ⟨S10000x8, .f32⟩
  | 12 => ⟨S_, .i32⟩
  | 13 => ⟨S330000, .i32⟩
  | 14 => ⟨S330000, .i1⟩
  | 15 => ⟨S_, .i32⟩
  | 16 => ⟨S330000, .i32⟩
  | 17 => ⟨S330000, .i32⟩
  | 18 => ⟨S330000, .i32⟩
  | 19 => ⟨S330000x1, .i32⟩
  | 20 => ⟨S330000x8, .f32⟩
  | 21 => ⟨S330000x8, .f32⟩
  | 22 => ⟨S_, .i32⟩
  | 23 => ⟨S330000, .i32⟩
  | 24 => ⟨S330000, .i1⟩
  | 25 => ⟨S_, .i32⟩
  | 26 => ⟨S330000, .i32⟩
  | 27 => ⟨S330000, .i32⟩
  | 28 => ⟨S330000, .i32⟩
  | 29 => ⟨S330000x1, .i32⟩
  | 30 => ⟨S330000x1024, .f32⟩
  | 31 => ⟨S330000x8x128, .f32⟩
  | 32 => ⟨S330000x8x1, .f32⟩
  | 33 => ⟨S330000x8x128, .f32⟩
  | 34 => ⟨S330000x8x128, .f32⟩
  | 35 => ⟨S_, .f32⟩
  | 36 => ⟨S330000x128, .f32⟩
  | 37 => ⟨S_, .f32⟩
  | 38 => ⟨S10000x128, .f32⟩
  | 39 => ⟨S330000x1, .i32⟩
  | 40 => ⟨S10000x128, .f32⟩
  | 41 => ⟨S_, .i32⟩
  | 42 => ⟨S_, .f32⟩
  | 43 => ⟨S10240x128, .f32⟩
  | 44 => ⟨S_, .f32⟩
  | 45 => ⟨S10240x128, .f32⟩
  | 46 => ⟨S1x10240x128, .f32⟩
  | 47 => ⟨S1x10240x128, .f32⟩
  | 48 => ⟨S2x10240x128, .f32⟩
  | 49 => ⟨S128x1x128x1, .f32⟩
  | 50 => ⟨S128x128, .f32⟩
  | 51 => ⟨S128x128, .f32⟩
  | 52 => ⟨S128x1x128x1, .f32⟩
  | 53 => ⟨S128x128, .f32⟩
  | 54 => ⟨S128x128, .f32⟩
  | 55 => ⟨S1x128, .f32⟩
  | 56 => ⟨S1x128, .f32⟩
  | 57 => ⟨S10240x128, .f32⟩
  | 58 => ⟨S512x128, .f32⟩
  | 59 => ⟨S9728x128, .f32⟩
  | 60 => ⟨S512x9728, .f32⟩
  | 61 => ⟨S504x128, .f32⟩
  | 62 => ⟨S9496x128, .f32⟩
  | 63 => ⟨S504x9496, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S128x1024, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S256x128, .f32⟩
  | .local _ .vmem, ⟨11, _⟩ => ⟨S256x128, .f32⟩
  | .local _ .vmem, ⟨12, _⟩ => ⟨S128x1024, .f32⟩
  | .local _ .vmem, ⟨13, _⟩ => ⟨S8x128, .f32⟩
  | .local _ .vmem, ⟨14, _⟩ => ⟨S8x128, .f32⟩
  | .local _ .vmem, ⟨15, _⟩ => ⟨S256x1024, .f32⟩
  | .local _ .vmem, ⟨16, _⟩ => ⟨S256x1024, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S8x256, .f32⟩
  | .local _ .vmem, ⟨21, _⟩ => ⟨S2x256x128, .f32⟩
  | .local _ .vmem, ⟨22, _⟩ => ⟨S2x256x128, .f32⟩
  | .local _ .vmem, ⟨23, _⟩ => ⟨S1x128, .f32⟩
  | .local _ .vmem, ⟨24, _⟩ => ⟨S128x1024, .f32⟩
  | .local _ .vmem, ⟨25, _⟩ => ⟨S8x128, .f32⟩
  | .local _ .vmem, ⟨26, _⟩ => ⟨S8x128, .f32⟩
  | .local _ .vmem, ⟨27, _⟩ => ⟨S256x128, .f32⟩
  | .local _ .vmem, ⟨28, _⟩ => ⟨S256x128, .f32⟩
  | .local _ .vmem, ⟨29, _⟩ => ⟨S256x1024, .f32⟩
  | .local _ .vmem, ⟨30, _⟩ => ⟨S256x1024, .f32⟩
  | .local _ .vmem, ⟨31, _⟩ => ⟨S8x256, .f32⟩
  | .local _ .vmem, ⟨32, _⟩ => ⟨S8x256, .f32⟩
  | .local _ .vmem, ⟨33, _⟩ => ⟨S8x256, .f32⟩
  | .local _ .vmem, ⟨34, _⟩ => ⟨S8x256, .f32⟩
  | .local _ .vmem, ⟨35, _⟩ => ⟨S256x128, .f32⟩
  | .local _ .vmem, ⟨36, _⟩ => ⟨S256x128, .f32⟩
  | .local _ .vmem, ⟨37, _⟩ => ⟨S2x256x128, .f32⟩
  | .local _ .vmem, ⟨38, _⟩ => ⟨S2x256x128, .f32⟩
  | .local _ .vmem, ⟨39, _⟩ => ⟨S1x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S256x128, .f32⟩
  | .local _ .vmem, ⟨44, _⟩ => ⟨S256x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | .local _ .vmem, ⟨48, _⟩ => ⟨S512x512, .f32⟩
  | .local _ .vmem, ⟨49, _⟩ => ⟨S512x512, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_v0 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v10_0 : Ref sig .tc := ⟨.hbm, 25, rfl⟩
abbrev main_v10_1 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_5 : Ref sig .tc := ⟨.hbm, 64, rfl⟩
abbrev main_v34 : Ref sig .tc := ⟨.hbm, 65, rfl⟩
abbrev main_v35 : Ref sig .tc := ⟨.hbm, 66, rfl⟩
abbrev main_c_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_7 : Ref sig .tc := ⟨.hbm, 74, rfl⟩
abbrev main_v42 : Ref sig .tc := ⟨.hbm, 75, rfl⟩
abbrev main_v43 : Ref sig .tc := ⟨.hbm, 76, rfl⟩
abbrev main_c_8 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_9 : Ref sig .tc := ⟨.hbm, 87, rfl⟩
abbrev main_v53 : Ref sig .tc := ⟨.hbm, 88, rfl⟩
abbrev main_cst_10 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_11 : Ref sig .tc := ⟨.hbm, 93, rfl⟩
abbrev main_call2_v0 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63_0 : Ref sig .tc := ⟨.hbm, 102, rfl⟩
abbrev main_v63_1 : Ref sig .tc := ⟨.hbm, 103, rfl⟩
abbrev main_v63_2 : Ref sig .tc := ⟨.hbm, 104, rfl⟩
abbrev main_v63_3 : Ref sig .tc := ⟨.hbm, 105, rfl⟩
abbrev main_c_13 : Ref sig .tc := ⟨.hbm, 106, rfl⟩
abbrev main_v64 : Ref sig .tc := ⟨.hbm, 107, rfl⟩
abbrev main_v65 : Ref sig .tc := ⟨.hbm, 108, rfl⟩
abbrev main_c_14 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_15 : Ref sig .tc := ⟨.hbm, 116, rfl⟩
abbrev main_v72 : Ref sig .tc := ⟨.hbm, 117, rfl⟩
abbrev main_v73 : Ref sig .tc := ⟨.hbm, 118, rfl⟩
abbrev main_c_16 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_17 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v81 : Ref sig .tc := ⟨.hbm, 134, rfl⟩
abbrev main_v82 : Ref sig .tc := ⟨.hbm, 135, rfl⟩
abbrev main_cst_18 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_19 : Ref sig .tc := ⟨.hbm, 140, rfl⟩
abbrev main_v86 : Ref sig .tc := ⟨.hbm, 141, rfl⟩
abbrev main_v87 : Ref sig .tc := ⟨.hbm, 142, rfl⟩
abbrev main_c_20 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c_21 : Ref sig .tc := ⟨.hbm, 150, rfl⟩
abbrev main_v94 : Ref sig .tc := ⟨.hbm, 151, rfl⟩
abbrev main_v95 : Ref sig .tc := ⟨.hbm, 152, rfl⟩
abbrev main_c_22 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_23 : Ref sig .tc := ⟨.hbm, 163, rfl⟩
abbrev main_v105 : Ref sig .tc := ⟨.hbm, 164, rfl⟩
abbrev main_cst_24 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_c_25 : Ref sig .tc := ⟨.hbm, 169, rfl⟩
abbrev main_call4_v0 : Ref sig .tc := ⟨.hbm, 170, rfl⟩
abbrev main_v109 : Ref sig .tc := ⟨.hbm, 171, rfl⟩
abbrev main_cst_26 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg5_1 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc3_stg6_0 : Ref sig .tc := ⟨.vmem, 29, rfl⟩
abbrev cc3_stg6_1 : Ref sig .tc := ⟨.vmem, 30, rfl⟩
abbrev cc3_stg7_0 : Ref sig .tc := ⟨.vmem, 31, rfl⟩
abbrev cc3_stg7_1 : Ref sig .tc := ⟨.vmem, 32, rfl⟩
abbrev cc3_stg8_0 : Ref sig .tc := ⟨.vmem, 33, rfl⟩
abbrev cc3_stg8_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc2_sem5_0 : DmaSem sig := 17
abbrev cc2_sem5_1 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem5_1 : DmaSem sig := 28
abbrev cc3_sem6_0 : DmaSem sig := 29
abbrev cc3_sem6_1 : DmaSem sig := 30
abbrev cc3_sem7_0 : DmaSem sig := 31
abbrev cc3_sem7_1 : DmaSem sig := 32
abbrev cc3_sem8_0 : DmaSem sig := 33
abbrev cc3_sem8_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem1_0 : DmaSem sig := 46
abbrev cc5_sem1_1 : DmaSem sig := 47
abbrev cc5_sem2_0 : DmaSem sig := 48
abbrev cc5_sem2_1 : DmaSem sig := 49

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![40], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2x256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S8x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S8x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2x256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![19], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== ReferenceIdeal.lean ====
abbrev S10000x128 : Shape := ⟨2, ![10000, 128]⟩
abbrev S2x320000 : Shape := ⟨2, ![2, 320000]⟩
abbrev S128x1024 : Shape := ⟨2, ![128, 1024]⟩
abbrev S8x128 : Shape := ⟨2, ![8, 128]⟩
abbrev S128 : Shape := ⟨1, ![128]⟩
abbrev S128x2x128x1 : Shape := ⟨4, ![128, 2, 128, 1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x1024 : Shape := ⟨2, ![10000, 1024]⟩
abbrev S10000x8x128 : Shape := ⟨3, ![10000, 8, 128]⟩
abbrev S1x8x128 : Shape := ⟨3, ![1, 8, 128]⟩
abbrev S_ : Shape := ⟨0, ![]⟩
abbrev S10000x8 : Shape := ⟨2, ![10000, 8]⟩
abbrev S330000x1 : Shape := ⟨2, ![330000, 1]⟩
abbrev S330000x8 : Shape := ⟨2, ![330000, 8]⟩
abbrev S1x330000 : Shape := ⟨2, ![1, 330000]⟩
abbrev S10000x1 : Shape := ⟨2, ![10000, 1]⟩
abbrev S10000x330000 : Shape := ⟨2, ![10000, 330000]⟩
abbrev S10000x330000x1 : Shape := ⟨3, ![10000, 330000, 1]⟩
abbrev S1x330000x8 : Shape := ⟨3, ![1, 330000, 8]⟩
abbrev S10000x330000x8 : Shape := ⟨3, ![10000, 330000, 8]⟩
abbrev S330000x8x128 : Shape := ⟨3, ![330000, 8, 128]⟩
abbrev S330000x8x1 : Shape := ⟨3, ![330000, 8, 1]⟩
abbrev S1x128 : Shape := ⟨2, ![1, 128]⟩
abbrev S10000x256 : Shape := ⟨2, ![10000, 256]⟩
abbrev S256x10000 : Shape := ⟨2, ![256, 10000]⟩
abbrev S128x256 : Shape := ⟨2, ![128, 256]⟩
abbrev S128x10000 : Shape := ⟨2, ![128, 10000]⟩
abbrev S128x1 : Shape := ⟨2, ![128, 1]⟩
abbrev S504x128 : Shape := ⟨2, ![504, 128]⟩
abbrev S9496x128 : Shape := ⟨2, ![9496, 128]⟩
abbrev S128x9496 : Shape := ⟨2, ![128, 9496]⟩
abbrev S504x9496 : Shape := ⟨2, ![504, 9496]⟩

abbrev nBuf : Space → Nat
  | .hbm => 245
  | .vmem => 0
  | .smem => 0
  | _ => 0

abbrev hbmTy0_0 (i : Nat) : BufTy := match i % 128 with
  | 0 => ⟨S10000x128, .f32⟩
  | 1 => ⟨S2x320000, .i32⟩
  | 2 => ⟨S128x1024, .f32⟩
  | 3 => ⟨S8x128, .f32⟩
  | 4 => ⟨S8x128, .f32⟩
  | 5 => ⟨S128, .f32⟩
  | 6 => ⟨S128x1024, .f32⟩
  | 7 => ⟨S8x128, .f32⟩
  | 8 => ⟨S8x128, .f32⟩
  | 9 => ⟨S128, .f32⟩
  | 10 => ⟨S128x2x128x1, .f32⟩
  | 11 => ⟨S128, .f32⟩
  | 12 => ⟨S10000, .i32⟩
  | 13 => ⟨S1x320000, .i32⟩
  | 14 => ⟨S320000, .i32⟩
  | 15 => ⟨S330000, .i32⟩
  | 16 => ⟨S1x320000, .i32⟩
  | 17 => ⟨S320000, .i32⟩
  | 18 => ⟨S330000, .i32⟩
  | 19 => ⟨S10000x1024, .f32⟩
  | 20 => ⟨S10000x8x128, .f32⟩
  | 21 => ⟨S1x8x128, .f32⟩
  | 22 => ⟨S10000x8x128, .f32⟩
  | 23 => ⟨S10000x8x128, .f32⟩
  | 24 => ⟨S_, .f32⟩
  | 25 => ⟨S10000x8, .f32⟩
  | 26 => ⟨S1x8x128, .f32⟩
  | 27 => ⟨S10000x8x128, .f32⟩
  | 28 => ⟨S10000x8x128, .f32⟩
  | 29 => ⟨S_, .f32⟩
  | 30 => ⟨S10000x8, .f32⟩
  | 31 => ⟨S_, .i32⟩
  | 32 => ⟨S330000, .i32⟩
  | 33 => ⟨S330000, .i1⟩
  | 34 => ⟨S_, .i32⟩
  | 35 => ⟨S330000, .i32⟩
  | 36 => ⟨S330000, .i32⟩
  | 37 => ⟨S330000, .i32⟩
  | 38 => ⟨S330000x1, .i32⟩
  | 39 => ⟨S330000x8, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000x8, .f32⟩
  | 49 => ⟨S330000x8, .f32⟩
  | 50 => ⟨S_, .f32⟩
  | 51 => ⟨S_, .f32⟩
  | 52 => ⟨S330000x8, .f32⟩
  | 53 => ⟨S330000x8, .i1⟩
  | 54 => ⟨S_, .f32⟩
  | 55 => ⟨S330000x8, .f32⟩
  | 56 => ⟨S330000x8, .f32⟩
  | 57 => ⟨S330000x8, .f32⟩
  | 58 => ⟨S1x330000, .i32⟩
  | 59 => ⟨S10000, .i32⟩
  | 60 => ⟨S10000x1, .i32⟩
  | 61 => ⟨S10000x330000, .i32⟩
  | 62 => ⟨S10000x330000, .i32⟩
  | 63 => ⟨S10000x330000, .i1⟩
  | 64 => ⟨S10000x330000x1, .i1⟩
  | 65 => ⟨S1x330000x8, .f32⟩
  | 66 => ⟨S_, .f32⟩
  | 67 => ⟨S_, .f32⟩
  | 68 => ⟨S10000x330000x8, .i1⟩
  | 69 => ⟨S10000x330000x8, .f32⟩
  | 70 => ⟨S10000x330000x8, .f32⟩
  | 71 => ⟨S10000x330000x8, .f32⟩
  | 72 => ⟨S_, .f32⟩
  | 73 => ⟨S10000x8, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S330000x8, .f32⟩
  | 83 => ⟨S330000x8, .f32⟩
  | 84 => ⟨S330000x8, .f32⟩
  | 85 => ⟨S_, .f32⟩
  | 86 => ⟨S10000x8, .f32⟩
  | 87 => ⟨S330000x1, .i32⟩
  | 88 => ⟨S10000x8, .f32⟩
  | 89 => ⟨S_, .i32⟩
  | 90 => ⟨S330000, .i32⟩
  | 91 => ⟨S330000, .i1⟩
  | 92 => ⟨S_, .i32⟩
  | 93 => ⟨S330000, .i32⟩
  | 94 => ⟨S330000, .i32⟩
  | 95 => ⟨S330000, .i32⟩
  | 96 => ⟨S330000x1, .i32⟩
  | 97 => ⟨S330000x8, .f32⟩
  | 98 => ⟨S330000x8, .f32⟩
  | 99 => ⟨S_, .i32⟩
  | 100 => ⟨S330000, .i32⟩
  | 101 => ⟨S330000, .i1⟩
  | 102 => ⟨S_, .i32⟩
  | 103 => ⟨S330000, .i32⟩
  | 104 => ⟨S330000, .i32⟩
  | 105 => ⟨S330000, .i32⟩
  | 106 => ⟨S330000x1, .i32⟩
  | 107 => ⟨S330000x8x128, .f32⟩
  | 108 => ⟨S330000x8x1, .f32⟩
  | 109 => ⟨S330000x8x128, .f32⟩
  | 110 => ⟨S330000x8x128, .f32⟩
  | 111 => ⟨S_, .f32⟩
  | 112 => ⟨S10000x8x128, .f32⟩
  | 113 => ⟨S330000x1, .i32⟩
  | 114 => ⟨S10000x8x128, .f32⟩
  | 115 => ⟨S_, .f32⟩
  | 116 => ⟨S10000x128, .f32⟩
  | 117 => ⟨S_, .f32⟩
  | 118 => ⟨S10000x128, .f32⟩
  | 119 => ⟨S10000x128, .f32⟩
  | 120 => ⟨S1x128, .f32⟩
  | 121 => ⟨S10000x128, .f32⟩
  | 122 => ⟨S10000x128, .f32⟩
  | 123 => ⟨S_, .f32⟩
  | 124 => ⟨S10000x128, .f32⟩
  | 125 => ⟨S10000x128, .f32⟩
  | 126 => ⟨S10000x1024, .f32⟩
  | 127 => ⟨S10000x8x128, .f32⟩
  | _ => ⟨S10000x128, .f32⟩

abbrev hbmTy0_1 (i : Nat) : BufTy := match i % 128 with
  | 0 => ⟨S1x8x128, .f32⟩
  | 1 => ⟨S10000x8x128, .f32⟩
  | 2 => ⟨S10000x8x128, .f32⟩
  | 3 => ⟨S_, .f32⟩
  | 4 => ⟨S10000x8, .f32⟩
  | 5 => ⟨S1x8x128, .f32⟩
  | 6 => ⟨S10000x8x128, .f32⟩
  | 7 => ⟨S10000x8x128, .f32⟩
  | 8 => ⟨S_, .f32⟩
  | 9 => ⟨S10000x8, .f32⟩
  | 10 => ⟨S_, .i32⟩
  | 11 => ⟨S330000, .i32⟩
  | 12 => ⟨S330000, .i1⟩
  | 13 => ⟨S_, .i32⟩
  | 14 => ⟨S330000, .i32⟩
  | 15 => ⟨S330000, .i32⟩
  | 16 => ⟨S330000, .i32⟩
  | 17 => ⟨S330000x1, .i32⟩
  | 18 => ⟨S330000x8, .f32⟩
  | 19 => ⟨S_, .i32⟩
  | 20 => ⟨S330000, .i32⟩
  | 21 => ⟨S330000, .i1⟩
  | 22 => ⟨S_, .i32⟩
  | 23 => ⟨S330000, .i32⟩
  | 24 => ⟨S330000, .i32⟩
  | 25 => ⟨S330000, .i32⟩
  | 26 => ⟨S330000x1, .i32⟩
  | 27 => ⟨S330000x8, .f32⟩
  | 28 => ⟨S330000x8, .f32⟩
  | 29 => ⟨S_, .f32⟩
  | 30 => ⟨S_, .f32⟩
  | 31 => ⟨S330000x8, .f32⟩
  | 32 => ⟨S330000x8, .i1⟩
  | 33 => ⟨S_, .f32⟩
  | 34 => ⟨S330000x8, .f32⟩
  | 35 => ⟨S330000x8, .f32⟩
  | 36 => ⟨S330000x8, .f32⟩
  | 37 => ⟨S1x330000, .i32⟩
  | 38 => ⟨S10000, .i32⟩
  | 39 => ⟨S10000x1, .i32⟩
  | 40 => ⟨S10000x330000, .i32⟩
  | 41 => ⟨S10000x330000, .i32⟩
  | 42 => ⟨S10000x330000, .i1⟩
  | 43 => ⟨S10000x330000x1, .i1⟩
  | 44 => ⟨S1x330000x8, .f32⟩
  | 45 => ⟨S_, .f32⟩
  | 46 => ⟨S_, .f32⟩
  | 47 => ⟨S10000x330000x8, .i1⟩
  | 48 => ⟨S10000x330000x8, .f32⟩
  | 49 => ⟨S10000x330000x8, .f32⟩
  | 50 => ⟨S10000x330000x8, .f32⟩
  | 51 => ⟨S_, .f32⟩
  | 52 => ⟨S10000x8, .f32⟩
  | 53 => ⟨S_, .i32⟩
  | 54 => ⟨S330000, .i32⟩
  | 55 => ⟨S330000, .i1⟩
  | 56 => ⟨S_, .i32⟩
  | 57 => ⟨S330000, .i32⟩
  | 58 => ⟨S330000, .i32⟩
  | 59 => ⟨S330000, .i32⟩
  | 60 => ⟨S330000x1, .i32⟩
  | 61 => ⟨S330000x8, .f32⟩
  | 62 => ⟨S330000x8, .f32⟩
  | 63 => ⟨S330000x8, .f32⟩
  | 64 => ⟨S_, .f32⟩
  | 65 => ⟨S10000x8, .f32⟩
  | 66 => ⟨S330000x1, .i32⟩
  | 67 => ⟨S10000x8, .f32⟩
  | 68 => ⟨S_, .i32⟩
  | 69 => ⟨S330000, .i32⟩
  | 70 => ⟨S330000, .i1⟩
  | 71 => ⟨S_, .i32⟩
  | 72 => ⟨S330000, .i32⟩
  | 73 => ⟨S330000, .i32⟩
  | 74 => ⟨S330000, .i32⟩
  | 75 => ⟨S330000x1, .i32⟩
  | 76 => ⟨S330000x8, .f32⟩
  | 77 => ⟨S330000x8, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S330000x8x128, .f32⟩
  | 87 => ⟨S330000x8x1, .f32⟩
  | 88 => ⟨S330000x8x128, .f32⟩
  | 89 => ⟨S330000x8x128, .f32⟩
  | 90 => ⟨S_, .f32⟩
  | 91 => ⟨S10000x8x128, .f32⟩
  | 92 => ⟨S330000x1, .i32⟩
  | 93 => ⟨S10000x8x128, .f32⟩
  | 94 => ⟨S_, .f32⟩
  | 95 => ⟨S10000x128, .f32⟩
  | 96 => ⟨S_, .f32⟩
  | 97 => ⟨S10000x128, .f32⟩
  | 98 => ⟨S10000x128, .f32⟩
  | 99 => ⟨S1x128, .f32⟩
  | 100 => ⟨S10000x128, .f32⟩
  | 101 => ⟨S10000x128, .f32⟩
  | 102 => ⟨S_, .f32⟩
  | 103 => ⟨S10000x128, .f32⟩
  | 104 => ⟨S10000x128, .f32⟩
  | 105 => ⟨S10000x256, .f32⟩
  | 106 => ⟨S256x10000, .f32⟩
  | 107 => ⟨S128x256, .f32⟩
  | 108 => ⟨S128x10000, .f32⟩
  | 109 => ⟨S128x1, .f32⟩
  | 110 => ⟨S128x10000, .f32⟩
  | 111 => ⟨S128x10000, .f32⟩
  | 112 => ⟨S10000x128, .f32⟩
  | 113 => ⟨S504x128, .f32⟩
  | 114 => ⟨S9496x128, .f32⟩
  | 115 => ⟨S128x9496, .f32⟩
  | 116 => ⟨S504x9496, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_c_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_12 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_15 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call2_cst : Ref sig .tc := ⟨.hbm, 123, rfl⟩
abbrev main_call2_v0 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_17 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_18 : Ref sig .tc := ⟨.hbm, 136, rfl⟩
abbrev main_v92 : Ref sig .tc := ⟨.hbm, 137, rfl⟩
abbrev main_c_19 : Ref sig .tc := ⟨.hbm, 138, rfl⟩
abbrev main_v93 : Ref sig .tc := ⟨.hbm, 139, rfl⟩
abbrev main_v94 : Ref sig .tc := ⟨.hbm, 140, rfl⟩
abbrev main_c_20 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_21 : Ref sig .tc := ⟨.hbm, 147, rfl⟩
abbrev main_v100 : Ref sig .tc := ⟨.hbm, 148, rfl⟩
abbrev main_v101 : Ref sig .tc := ⟨.hbm, 149, rfl⟩
abbrev main_c_22 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_23 : Ref sig .tc := ⟨.hbm, 157, rfl⟩
abbrev main_call3_cst : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_24 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_call4_v3 : Ref sig .tc := ⟨.hbm, 177, rfl⟩
abbrev main_v117 : Ref sig .tc := ⟨.hbm, 178, rfl⟩
abbrev main_cst_25 : Ref sig .tc := ⟨.hbm, 179, rfl⟩
abbrev main_v118 : Ref sig .tc := ⟨.hbm, 180, rfl⟩
abbrev main_c_26 : Ref sig .tc := ⟨.hbm, 181, rfl⟩
abbrev main_v119 : Ref sig .tc := ⟨.hbm, 182, rfl⟩
abbrev main_v120 : Ref sig .tc := ⟨.hbm, 183, rfl⟩
abbrev main_c_27 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_cst_28 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_c_29 : Ref sig .tc := ⟨.hbm, 196, rfl⟩
abbrev main_v131 : Ref sig .tc := ⟨.hbm, 197, rfl⟩
abbrev main_v132 : Ref sig .tc := ⟨.hbm, 198, rfl⟩
abbrev main_c_30 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_31 : Ref sig .tc := ⟨.hbm, 206, rfl⟩
abbrev main_v139 : Ref sig .tc := ⟨.hbm, 207, rfl⟩
abbrev main_v140 : Ref sig .tc := ⟨.hbm, 208, rfl⟩
abbrev main_c_32 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_cst_33 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_cst_34 : Ref sig .tc := ⟨.hbm, 222, rfl⟩
abbrev main_v152 : Ref sig .tc := ⟨.hbm, 223, rfl⟩
abbrev main_cst_35 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_call5_cst : Ref sig .tc := ⟨.hbm, 230, rfl⟩
abbrev main_call5_v0 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩

abbrev nD : Nat := 1
abbrev τ : Topo := Topo.v7x

variable {F : FTy → Type} [FloatOps F]
-- ==== Proof.KernelRun.lean ====
/- The kernel's run: every execution ends with the three results at what the last boundary's contents hold, the arguments as launched. -/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel ends without a fault, each of the three results holds what the contents at the last
    boundary hold there, and every argument is as launched. -/
theorem run : θ_run defs (onTc (τ := τ) (main (F := F))) ⟨m, fun _ => 0, ρ⟩ (fun r => ∀ c : Dev nD,
      r.2.mem ((c.tc : Thread nD τ).loc main_v128) = W20 m ρ c (Proc.devRef .tc main_v128)
      ∧ r.2.mem ((c.tc : Thread nD τ).loc main_v126) = W20 m ρ c (Proc.devRef .tc main_v126)
      ∧ r.2.mem ((c.tc : Thread nD τ).loc main_v127) = W20 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h _ c => ⟨h c _ (mem_uc main_v128 (by decide)),
      h c _ (mem_uc main_v126 (by decide)),
      h c _ (mem_uc main_v127 (by decide)),
      (h c _ (mem_uc main_arg0 (by decide))).trans (W20_main_arg0 m ρ c),
      (h c _ (mem_uc main_arg1 (by decide))).trans (W20_main_arg1 m ρ c),
      (h c _ (mem_uc main_arg2 (by decide))).trans (W20_main_arg2 m ρ c),
      (h c _ (mem_uc main_arg3 (by decide))).trans (W20_main_arg3 m ρ c),
      (h c _ (mem_uc main_arg4 (by decide))).trans (W20_main_arg4 m ρ c),
      (h c _ (mem_uc main_arg5 (by decide))).trans (W20_main_arg5 m ρ c),
      (h c _ (mem_uc main_arg6 (by decide))).trans (W20_main_arg6 m ρ c),
      (h c _ (mem_uc main_arg7 (by decide))).trans (W20_main_arg7 m ρ c),
      (h c _ (mem_uc main_arg8 (by decide))).trans (W20_main_arg8 m ρ c),
      (h c _ (mem_uc main_arg9 (by decide))).trans (W20_main_arg9 m ρ c),
      (h c _ (mem_uc main_arg10 (by decide))).trans (W20_main_arg10 m ρ c),
      (h c _ (mem_uc main_arg11 (by decide))).trans (W20_main_arg11 m ρ c)⟩)

end Cert.Proof.KernelRun

end
-- ==== Proof.Spec.lean ====
/- One attention layer over the extended reals, as the kernel computes it and as the reference states it, and their equality on
   finite features, weights and attention vectors. Nothing here names a program. -/
module

public import Idealize.ShloMosaic.Lib.ValueIdx
public import Idealize.ShloMosaic.Lib.IdealHost

@[expose] public section

noncomputable section

namespace Cert.Proof

open Idealize.ShloMosaic

/-- Channel `f` of head `h` in a row of eight heads of 128 channels. -/
def col (h : Fin 8) (f : Fin 128) : Fin 1024 := ⟨h.val * 128 + f.val, by omega⟩

/-- The slope of the leaky rectifier: the single-precision number nearest 0.2. -/
def slope : EReal := Ideal.ofBits .f32 0x3E4CCCCD#32

/-- The leaky rectifier. -/
def leaky (v : EReal) : EReal := Scalar.select (Ideal.cmp .oge v 0) v (slope * v)

section Layer
variable {N n : Nat}

/-- The projected features: node `i`, channel `c` of the eight heads. -/
def feat (x : Fin N → Fin 128 → EReal) (W : Fin 128 → Fin 1024 → EReal) (i : Fin N) (c : Fin 1024) : EReal :=
  ∑ f : Fin 128, x i f * W f c

/-- The attention vector carried back through the weights, as the kernel prepares it. -/
def carried (a : Fin 8 → Fin 128 → EReal) (W : Fin 128 → Fin 1024 → EReal) (h : Fin 8) (f : Fin 128) : EReal :=
  ∑ j : Fin 128, a h j * W f (col h j)

/-- A node's attention term as the kernel computes it. -/
def termK (a : Fin 8 → Fin 128 → EReal) (W : Fin 128 → Fin 1024 → EReal) (x : Fin N → Fin 128 → EReal) (i : Fin N) (h : Fin 8) : EReal :=
  ∑ f : Fin 128, carried a W h f * x i f

/-- A node's attention term as the reference states it. -/
def termR (a : Fin 8 → Fin 128 → EReal) (W : Fin 128 → Fin 1024 → EReal) (x : Fin N → Fin 128 → EReal) (i : Fin N) (h : Fin 8) : EReal :=
  0 + ∑ j : Fin 128, feat x W i (col h j) * a h j

/-- An edge's logit. -/
def logit (s d : Fin N → Fin 8 → EReal) (S D : Fin n → Fin N) (e : Fin n) (h : Fin 8) : EReal :=
  leaky (s (S e) h + d (D e) h)

/-- The sum of an edge quantity over the edges that end in node `i`. -/
def gatherIn (D : Fin n → Fin N) (u : Fin n → EReal) (i : Fin N) : EReal :=
  0 + ∑ e ∈ Finset.univ.filter (fun e => D e = i), u e

/-- An edge's share of its end node's attention, from a positive weight for each edge. -/
def share (w : Fin n → Fin 8 → EReal) (D : Fin n → Fin N) (e : Fin n) (h : Fin 8) : EReal :=
  Ideal.div (w e h) (gatherIn D (fun e' => w e' h) (D e))

/-- The kernel's edge weight. -/
def weightK (l : Fin n → Fin 8 → EReal) (e : Fin n) (h : Fin 8) : EReal := Ideal.exp (l e h)

/-- The reference's edge weight: the logit less a number of its end node. -/
def weightR (l : Fin n → Fin 8 → EReal) (mx : Fin N → Fin 8 → EReal) (D : Fin n → Fin N) (e : Fin n) (h : Fin 8) : EReal :=
  Ideal.exp (l e h - mx (D e) h)

/-- The kernel's message sum: over the heads on each edge, then over the edges into a node. -/
def gatheredK (xw : Fin N → Fin 1024 → EReal) (att : Fin n → Fin 8 → EReal) (S D : Fin n → Fin N) (i : Fin N) (f : Fin 128) : EReal :=
  gatherIn D (fun e => 0 + ∑ h : Fin 8, xw (S e) (col h f) * att e h) i

/-- The reference's message sum: over the edges into a node for each head, then over the heads. -/
def gatheredR (xw : Fin N → Fin 1024 → EReal) (att : Fin n → Fin 8 → EReal) (S D : Fin n → Fin N) (i : Fin N) (f : Fin 128) : EReal :=
  0 + ∑ h : Fin 8, gatherIn D (fun e => xw (S e) (col h f) * att e h) i

/-- The message sum of a kernel layer from its features and attention terms. -/
def messagesK (s d : Fin N → Fin 8 → EReal) (xw : Fin N → Fin 1024 → EReal) (S D : Fin n → Fin N) (i : Fin N) (f : Fin 128) : EReal :=
  gatheredK xw (share (weightK (logit s d S D)) D) S D i f

/-- The kernel's layer before its rectifier: the message sum (and an empty second part) times an eighth, plus the bias. -/
def scaledK (o : EReal) (b : EReal) : EReal := max ((o + 0) * Ideal.ofBits .f32 0x3E000000#32 + b) 0

/-- The kernel's layer. -/
def layerK (x : Fin N → Fin 128 → EReal) (W : Fin 128 → Fin 1024 → EReal) (as ad : Fin 8 → Fin 128 → EReal) (b : Fin 128 → EReal)
    (S D : Fin n → Fin N) (i : Fin N) (f : Fin 128) : EReal :=
  scaledK (messagesK (termK as W x) (termK ad W x) (feat x W) S D i f) (b f)

/-- The reference's layer, from the number subtracted at each node. -/
def layerR (x : Fin N → Fin 128 → EReal) (W : Fin 128 → Fin 1024 → EReal) (as ad : Fin 8 → Fin 128 → EReal) (b : Fin 128 → EReal)
    (S D : Fin n → Fin N) (mx : Fin N → Fin 8 → EReal) (i : Fin N) (f : Fin 128) : EReal :=
  max (Ideal.div (gatheredR (feat x W) (share (weightR (logit (termR as W x) (termR ad W x) S D) mx D) D) S D i f)
    (Ideal.ofBits .f32 0x41000000#32) + b f) 0

/-! ## Finite arrays -/

/-- The extended real is a real number. -/
def Finite (v : EReal) : Prop := ∃ r : ℝ, v = r

/-- A finite table is the image of a table of reals. -/
theorem lift2 {α β : Type} (x : α → β → EReal) (h : ∀ a b, Finite (x a b)) : ∃ r : α → β → ℝ, x = fun a b => (r a b : EReal) := by
  choose r hr using h
  exact ⟨r, funext fun a => funext fun b => hr a b⟩

/-- The image of a finite sum of reals. -/
theorem coe_sum {ι : Type} (s : Finset ι) (f : ι → ℝ) : ∑ i ∈ s, (f i : EReal) = ((∑ i ∈ s, f i : ℝ) : EReal) :=
  (map_sum (⟨⟨fun r : ℝ => (r : EReal), rfl⟩, fun a b => EReal.coe_add a b⟩ : ℝ →+ EReal) f s).symm

/-- The slope is a real number. -/
theorem slope_coe : Finite slope := by
  refine ⟨(13421773 / 67108864 : ℝ), ?_⟩
  simp [slope, Ideal.ofBits, Ideal.ieee, -EReal.coe_mul]; norm_num

/-- The kernel's factor is an eighth. -/
theorem eighth_coe : Ideal.ofBits .f32 0x3E000000#32 = ((1 / 8 : ℝ) : EReal) := by
  simp [Ideal.ofBits, Ideal.ieee, -EReal.coe_mul]; norm_num

/-- The reference's divisor is eight. -/
theorem eight_coe : Ideal.ofBits .f32 0x41000000#32 = ((8 : ℝ) : EReal) := by
  simp [Ideal.ofBits, Ideal.ieee, -EReal.coe_mul]; norm_num

/-- The leaky rectifier of a finite number is finite. -/
theorem leaky_finite {v : EReal} (h : Finite v) : Finite (leaky v) := by
  obtain ⟨r, rfl⟩ := h
  obtain ⟨s, hs⟩ := slope_coe
  unfold leaky Scalar.select
  split
  · exact ⟨r, rfl⟩
  · exact ⟨s * r, by rw [hs, EReal.coe_mul]⟩

variable (X : Fin N → Fin 128 → ℝ) (V : Fin 128 → Fin 1024 → ℝ) (A : Fin 8 → Fin 128 → ℝ)

/-- The features of real inputs are real. -/
theorem feat_coe : feat (fun i f => (X i f : EReal)) (fun f c => (V f c : EReal))
    = fun i c => ((∑ f : Fin 128, X i f * V f c : ℝ) : EReal) := by
  funext i c
  simp only [feat, ← EReal.coe_mul, coe_sum]

/-- The reference's terms of real inputs are real. -/
theorem termR_coe : termR (fun h j => (A h j : EReal)) (fun f c => (V f c : EReal)) (fun i f => (X i f : EReal))
    = fun i h => ((∑ j : Fin 128, (∑ f : Fin 128, X i f * V f (col h j)) * A h j : ℝ) : EReal) := by
  funext i h
  simp only [termR, feat_coe, ← EReal.coe_mul, coe_sum, zero_add]

/-- Carrying the attention vector back through the weights changes no attention term. -/
theorem termK_eq_termR : termK (fun h j => (A h j : EReal)) (fun f c => (V f c : EReal)) (fun i f => (X i f : EReal))
    = termR (fun h j => (A h j : EReal)) (fun f c => (V f c : EReal)) (fun i f => (X i f : EReal)) := by
  rw [termR_coe]
  funext i h
  simp only [termK, carried, ← EReal.coe_mul, coe_sum]
  congr 1
  simp only [Finset.sum_mul]
  rw [Finset.sum_comm]
  exact Finset.sum_congr rfl fun j _ => Finset.sum_congr rfl fun f _ => by ring

/-- The sum over a node's edges of real numbers is real. -/
theorem gatherIn_coe (D : Fin n → Fin N) (u : Fin n → ℝ) :
    gatherIn D (fun e => (u e : EReal)) = fun i => ((∑ e ∈ Finset.univ.filter (fun e => D e = i), u e : ℝ) : EReal) := by
  funext i
  simp only [gatherIn, coe_sum, zero_add]

/-- The shares of positive real weights. -/
theorem share_coe (w : Fin n → Fin 8 → ℝ) (hw : ∀ e h, 0 < w e h) (D : Fin n → Fin N) :
    share (fun e h => (w e h : EReal)) D
      = fun e h => ((w e h / ∑ e' ∈ Finset.univ.filter (fun e' => D e' = D e), w e' h : ℝ) : EReal) := by
  funext e h
  have hpos : (0 : ℝ) < ∑ e' ∈ Finset.univ.filter (fun e' => D e' = D e), w e' h :=
    Finset.sum_pos (fun e' _ => hw e' h) ⟨e, Finset.mem_filter.2 ⟨Finset.mem_univ _, rfl⟩⟩
  simp only [share, gatherIn_coe]
  rw [Ideal.div_coe hpos.ne', ← EReal.coe_mul, mul_one_div]

/-- Subtracting a number of the end node from every logit changes no share. -/
theorem share_shift (l : Fin n → Fin 8 → ℝ) (M : Fin N → Fin 8 → ℝ) (D : Fin n → Fin N) :
    share (weightR (fun e h => (l e h : EReal)) (fun i h => (M i h : EReal)) D) D
      = share (weightK (fun e h => (l e h : EReal))) D := by
  have hR : weightR (fun e h => (l e h : EReal)) (fun i h => (M i h : EReal)) D
      = fun e h => ((Real.exp (l e h - M (D e) h) : ℝ) : EReal) := by
    funext e h
    rw [weightR, ← EReal.coe_sub, Ideal.exp_coe]
  have hK : weightK (fun e h => (l e h : EReal)) = fun e h => ((Real.exp (l e h) : ℝ) : EReal) := by
    funext e h
    rw [weightK, Ideal.exp_coe]
  rw [hR, hK, share_coe _ (fun _ _ => Real.exp_pos _), share_coe _ (fun _ _ => Real.exp_pos _)]
  funext e h
  congr 1
  have hs : ∑ e' ∈ Finset.univ.filter (fun e' => D e' = D e), Real.exp (l e' h - M (D e') h)
      = (∑ e' ∈ Finset.univ.filter (fun e' => D e' = D e), Real.exp (l e' h)) * Real.exp (-(M (D e) h)) := by
    rw [Finset.sum_mul]
    refine Finset.sum_congr rfl fun e' he => ?_
    rw [(Finset.mem_filter.1 he).2, sub_eq_add_neg, Real.exp_add]
  rw [hs, sub_eq_add_neg, Real.exp_add]
  exact mul_div_mul_right _ _ (Real.exp_ne_zero _)

/-- The two orders of the message sum agree on finite features and shares. -/
theorem gathered_comm (y : Fin N → Fin 1024 → ℝ) (t : Fin n → Fin 8 → ℝ) (S D : Fin n → Fin N) (i : Fin N) (f : Fin 128) :
    ∃ r : ℝ, gatheredK (fun i c => (y i c : EReal)) (fun e h => (t e h : EReal)) S D i f = r
      ∧ gatheredR (fun i c => (y i c : EReal)) (fun e h => (t e h : EReal)) S D i f = r := by
  refine ⟨∑ e ∈ Finset.univ.filter (fun e => D e = i), ∑ h : Fin 8, y (S e) (col h f) * t e h, ?_, ?_⟩
  · simp only [gatheredK, ← EReal.coe_mul, coe_sum, zero_add, gatherIn_coe]
  · simp only [gatheredR, ← EReal.coe_mul, coe_sum, zero_add, gatherIn_coe]
    rw [Finset.sum_comm]

/-- The logit of finite terms is finite. -/
theorem logit_finite {s d : Fin N → Fin 8 → EReal} (hs : ∀ i h, Finite (s i h)) (hd : ∀ i h, Finite (d i h)) (S D : Fin n → Fin N)
    (e : Fin n) (h : Fin 8) : Finite (logit s d S D e h) := by
  refine leaky_finite ?_
  obtain ⟨p, hp⟩ := hs (S e) h
  obtain ⟨q, hq⟩ := hd (D e) h
  exact ⟨p + q, by rw [hp, hq, EReal.coe_add]⟩

end Layer

/-- The reference's logits of a layer. -/
def logitsR {N n : Nat} (x : Fin N → Fin 128 → EReal) (W : Fin 128 → Fin 1024 → EReal) (as ad : Fin 8 → Fin 128 → EReal)
    (S D : Fin n → Fin N) (e : Fin n) (h : Fin 8) : EReal := logit (termR as W x) (termR ad W x) S D e h

/-- On finite features, weights and attention vectors the reference's logits are finite. -/
theorem logitsR_finite {N n : Nat} (x : Fin N → Fin 128 → EReal) (W : Fin 128 → Fin 1024 → EReal) (as ad : Fin 8 → Fin 128 → EReal)
    (S D : Fin n → Fin N) (hx : ∀ i f, Finite (x i f)) (hW : ∀ f c, Finite (W f c)) (hs : ∀ h j, Finite (as h j))
    (hd : ∀ h j, Finite (ad h j)) (e : Fin n) (h : Fin 8) : Finite (logitsR x W as ad S D e h) := by
  obtain ⟨X, rfl⟩ := lift2 x hx
  obtain ⟨V, rfl⟩ := lift2 W hW
  obtain ⟨A, rfl⟩ := lift2 as hs
  obtain ⟨B, rfl⟩ := lift2 ad hd
  refine logit_finite (fun i h => ?_) (fun i h => ?_) S D e h
  · rw [termR_coe]; exact ⟨_, rfl⟩
  · rw [termR_coe]; exact ⟨_, rfl⟩

/-- On finite features, weights and attention vectors, and whatever finite number is subtracted at each node, the kernel's layer is
    the reference's. -/
theorem layerK_eq_layerR {N n : Nat} (x : Fin N → Fin 128 → EReal) (W : Fin 128 → Fin 1024 → EReal) (as ad : Fin 8 → Fin 128 → EReal)
    (b : Fin 128 → EReal) (S D : Fin n → Fin N) (mx : Fin N → Fin 8 → EReal) (hx : ∀ i f, Finite (x i f)) (hW : ∀ f c, Finite (W f c))
    (hs : ∀ h j, Finite (as h j)) (hd : ∀ h j, Finite (ad h j)) (hm : ∀ i h, Finite (mx i h)) (i : Fin N) (f : Fin 128) :
    ∃ r : ℝ, layerK x W as ad b S D i f = max ((r : EReal) + b f) 0 ∧ layerR x W as ad b S D mx i f = max ((r : EReal) + b f) 0 := by
  have hl := logitsR_finite x W as ad S D hx hW hs hd
  obtain ⟨X, rfl⟩ := lift2 x hx
  obtain ⟨V, rfl⟩ := lift2 W hW
  obtain ⟨A, rfl⟩ := lift2 as hs
  obtain ⟨B, rfl⟩ := lift2 ad hd
  obtain ⟨M, rfl⟩ := lift2 mx hm
  obtain ⟨l, hl⟩ := lift2 _ hl
  unfold layerK layerR messagesK
  rw [termK_eq_termR, termK_eq_termR]
  change logit _ _ S D = _ at hl
  rw [hl, share_shift]
  have hK : weightK (fun e h => (l e h : EReal)) = fun e h => ((Real.exp (l e h) : ℝ) : EReal) := by
    funext e h
    rw [weightK, Ideal.exp_coe]
  rw [hK, share_coe _ (fun _ _ => Real.exp_pos _), feat_coe]
  obtain ⟨r, h1, h2⟩ := gathered_comm (fun i c => ∑ f : Fin 128, X i f * V f c)
    (fun e h => Real.exp (l e h) / ∑ e' ∈ Finset.univ.filter (fun e' => D e' = D e), Real.exp (l e' h)) S D i f
  refine ⟨r * (1 / 8), ?_, ?_⟩
  · rw [h1, scaledK, eighth_coe, add_zero, ← EReal.coe_mul]
  · rw [h2, eight_coe, Ideal.div_coe (by norm_num), ← EReal.coe_mul]

/-- A layer's output is finite when its bias is. -/
theorem relu_finite (r : ℝ) {b : EReal} (hb : Finite b) : Finite (max ((r : EReal) + b) 0) := by
  obtain ⟨q, rfl⟩ := hb
  refine ⟨max (r + q) 0, ?_⟩
  rw [← EReal.coe_add, ← EReal.coe_zero]
  exact (EReal.coe_strictMono.monotone.map_max).symm

end Cert.Proof

end
-- ==== Proof.Inputs.lean ====
/- The precondition read back: finite entries, and edge words that are node numbers. -/
module

public import proofs.«01_k».proof.Defs
public import proofs.«01_k».proof.Proof.Gen.Pre_finite_inputs
public import proofs.«01_k».proof.Proof.Spec
public import Idealize.ShloMosaic.Lib.ReduceAll
public import Idealize.ShloMosaic.Lib.Pipeline.Value

@[expose] public section

noncomputable section

namespace Cert.Proof.Inputs

open Idealize.ShloMosaic Idealize.ShloMosaic.ValueIdx

/-- The pattern of positive infinity is the greatest extended real. -/
theorem inf_coe : Ideal.ofBits .f32 0x7F800000#32 = ⊤ := by simp [Ideal.ofBits, Ideal.ieee]

/-- An extended real whose absolute value is below positive infinity is a real number. -/
theorem finite_of_abs {v : EReal} (h : FloatOps.cmpf (F := Ideal) (φ := .f32) .olt (FloatOps.absf (F := Ideal) (φ := .f32) v)
    (Ideal.ofBits .f32 0x7F800000#32) = 1#1) : Finite v := by
  rw [inf_coe] at h
  induction v with
  | bot => exact absurd h (by show ¬ Ideal.cmp .olt (max (⊥ : EReal) (-⊥)) ⊤ = 1#1; simp [Ideal.cmp])
  | top => exact absurd h (by show ¬ Ideal.cmp .olt (max (⊤ : EReal) (-⊤)) ⊤ = 1#1; simp [Ideal.cmp])
  | coe r => exact ⟨r, rfl⟩

/-- An array of no axes has one index. -/
instance : Subsingleton (⟨0, ![]⟩ : Shape).Idx := ⟨fun a b => funext fun d => d.elim0⟩

/-- An array found everywhere below positive infinity in absolute value has finite entries. -/
theorem finite_of_all {s : Shape} {axes : List (Fin s.rank)} (x : FVec Ideal s .f32)
    (hb : (⟨0, ![]⟩ : Shape).BroadcastsInDim s ![]) (z : IVec ⟨0, ![]⟩ 1) (h : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant (F := Ideal) ⟨0, ![]⟩ .f32 0x7F800000#32))) z h hu j
      = 1#1) (i : s.Idx) : Finite (x i) :=
  finite_of_abs ((congrArg _ (broadcastInDim_scalar_apply _ _ i).symm).trans (Host.reduce_andi_all _ _ h hu j e i))

/-- A word at least zero and below ten thousand, both read signed, is below ten thousand read unsigned. -/
theorem word_lt {w : BitVec 32} (h : IntOp.andi (IntOp.cmpi .sge w 0#32) (IntOp.cmpi .slt w 10000#32) = 1#1) : w.toNat < 10000 := by
  obtain ⟨h0, h1⟩ := IntOp.andi_eq_one.1 h
  have h0 := IntOp.cmpi_sge.1 h0
  have h1 := IntOp.cmpi_slt.1 h1
  have e0 : (0#32).toInt = 0 := by decide
  have e1 : (10000#32).toInt = 10000 := by decide
  rw [e0] at h0
  rw [e1] at h1
  have := w.isLt
  rw [BitVec.toInt_eq_toNat_cond] at h0 h1
  split at h0 <;> omega

variable (x0 : FVec Ideal ⟨2, ![10000, 128]⟩ .f32) (x1 : IVec ⟨2, ![2, 320000]⟩ 32) (x2 : FVec Ideal ⟨2, ![128, 1024]⟩ .f32)
  (x3 x4 : FVec Ideal ⟨2, ![8, 128]⟩ .f32) (x5 : FVec Ideal ⟨1, ![128]⟩ .f32) (x6 : FVec Ideal ⟨2, ![128, 1024]⟩ .f32)
  (x7 x8 : FVec Ideal ⟨2, ![8, 128]⟩ .f32) (x9 : FVec Ideal ⟨1, ![128]⟩ .f32) (x10 : FVec Ideal ⟨4, ![128, 2, 128, 1]⟩ .f32)
  (x11 : FVec Ideal ⟨1, ![128]⟩ .f32)

/-- What the precondition says of the arguments: the features, the weights, the attention vectors and the first bias are
    finite, and every word of the edge table is a node's number. -/
theorem read (h : Cert.Pre_finite_inputs.fn (F := Ideal) x0 x1 x2 x3 x4 x5 x6 x7 x8 x9 x10 x11 ix0 = 1#1) :
    (∀ i, Finite (x0 i)) ∧ (∀ i, (x1 i).toNat < 10000) ∧ (∀ i, Finite (x2 i)) ∧ (∀ i, Finite (x3 i)) ∧ (∀ i, Finite (x4 i))
      ∧ (∀ i, Finite (x5 i)) ∧ (∀ i, Finite (x6 i)) ∧ (∀ i, Finite (x7 i)) ∧ (∀ i, Finite (x8 i)) := by
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨finite_of_all x0 _ _ _ _ _ h0, fun i => ?_, finite_of_all x2 _ _ _ _ _ h2, finite_of_all x3 _ _ _ _ _ h3,
    finite_of_all x4 _ _ _ _ _ h4, finite_of_all x5 _ _ _ _ _ h5, finite_of_all x6 _ _ _ _ _ h6, finite_of_all x7 _ _ _ _ _ h7,
    finite_of_all x8 _ _ _ _ _ h8⟩
  exact word_lt (Host.reduce_andi_all _ _ _ _ _ h1 i)

end Cert.Proof.Inputs

end
-- ==== Proof.Bodies.lean ====
/- What each kernel body stores, read at an index over the extended reals. -/
module

public import proofs.«01_k».proof.Proof.Gen.KernelIdeal.Frame
public import proofs.«01_k».proof.Proof.Spec
public import Idealize.ShloMosaic.Lib.MatmulPlain
public import Idealize.ShloMosaic.Lib.Pipeline.Value
public import Idealize.ShloMosaic.Lib.ValueIdx

@[expose] public section

noncomputable section

namespace Cert.Proof

open Cert.KernelIdeal Cert.KernelIdeal.Gen Idealize.ShloMosaic Idealize.ShloMosaic.ValueIdx

/-- A two-axis array as a table. -/
abbrev tab {α : Type} {a b : Nat} (v : (⟨2, ![a, b]⟩ : Shape).Idx → α) (i : Fin a) (j : Fin b) : α := v (ix2 i j)

/-- The zero offset of two axes. -/
theorem zero2 : (![0, 0] : Fin 2 → Nat) = fun _ => 0 := funext fun a => by fin_cases a <;> rfl

/-- A product into zeros, both factors contracted along the shared middle axis. -/
theorem product_apply {m k n : Nat} (p : Option ContractPrecision) (A : FVec Ideal ⟨2, ![m, k]⟩ .f32) (B : FVec Ideal ⟨2, ![k, n]⟩ .f32)
    (r : Fin m) (c : Fin n) :
    FloatOps.matmul (DotDims.plain m k n) p A B (constant ⟨2, ![m, n]⟩ .f32 0x00000000#32) (ix2 r c) = ∑ j : Fin k, A (ix2 r j) * B (ix2 j c) := by
  rw [Ideal.matmul_plain_apply]
  show Ideal.ofBits .f32 0x00000000#32 + _ = _
  rw [Ideal.ofBits_zero_f32, zero_add]

/-- The same with the second factor transposed. -/
theorem productT_apply {m k n : Nat} (p : Option ContractPrecision) (A : FVec Ideal ⟨2, ![m, k]⟩ .f32) (B : FVec Ideal ⟨2, ![n, k]⟩ .f32)
    (r : Fin m) (c : Fin n) :
    FloatOps.matmul (DotDims.transposedRhs m k n) p A B (constant ⟨2, ![m, n]⟩ .f32 0x00000000#32) (ix2 r c) = ∑ j : Fin k, A (ix2 r j) * B (ix2 c j) := by
  rw [Ideal.matmul_transposedRhs_apply]
  show Ideal.ofBits .f32 0x00000000#32 + _ = _
  rw [Ideal.ofBits_zero_f32, zero_add]

/-- A two-axis transpose. -/
theorem transpose2_apply {α : Type} {a b : Nat} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) :=
  transpose_apply _ _ _ _ _ fun c => by
    match c with
    | ⟨0, _⟩ => rfl
    | ⟨1, _⟩ => rfl

/-! ## The first embedding -/

/-- The first projection's block of features is a product of its rows with the weights. -/
theorem embed1_feat (x : FVec Ideal S256x128 .f32) (W : FVec Ideal S128x1024 .f32) (r : Fin 256) (c : Fin 1024) :
    k2_pay2 (F := Ideal) x W (ix2 r c) = feat (tab x) (tab W) r c := by
  unfold k2_pay2 k2_pay1
  rw [shapeCast_self]
  exact product_apply none x W r c

/-- The first projection's block of terms is a product of the carried vectors with its rows. -/
theorem embed1_term4 (x : FVec Ideal S256x128 .f32) (A : FVec Ideal S8x128 .f32) (h : Fin 8) (r : Fin 256) :
    k2_pay4 (F := Ideal) x A (ix2 h r) = ∑ f : Fin 128, A (ix2 h f) * x (ix2 r f) := by
  unfold k2_pay4 k2_pay3 k2_pay1
  rw [shapeCast_self, shapeCast_self]
  refine (product_apply none A _ h r).trans (Finset.sum_congr rfl fun f _ => ?_)
  exact congrArg (A (ix2 h f) * ·) (transpose2_apply x _ f r)

/-- The two blocks of terms of the first projection are one expression. -/
theorem embed1_term5 (x : FVec Ideal S256x128 .f32) (A : FVec Ideal S8x128 .f32) : k2_pay5 (F := Ideal) x A = k2_pay4 (F := Ideal) x A := rfl

/-! ## The second embedding -/

/-- The rectified layer output from its two parts and the bias. -/
theorem embed2_x (p q : FVec Ideal S1x256x128 .f32) (b : FVec Ideal S1x128 .f32) (r : Fin 256) (f : Fin 128) :
    k3_pay1 (F := Ideal) p q b (ix2 r f) = max ((p (ix3 0 r f) + q (ix3 0 r f)) * Ideal.ofBits .f32 0x3E000000#32 + b (ix2 0 f)) 0 := by
  have e (v : FVec Ideal S1x256x128 .f32) (h : S1x256x128.ShapeCasts S256x128) :
      shapeCast S256x128 v h (ix2 r f) = v (ix3 0 r f) := shapeCast_apply _ _ _ _ (by
    show (S1x256x128.rowMajor (ix3 0 r f)).val = (S256x128.rowMajor (ix2 r f)).val
    rw [Shape.rowMajor_val_three, Shape.rowMajor_val_two]
    show (0 * 256 + r.val) * 128 + f.val = r.val * 128 + f.val
    omega)
  have eb (h : S1x128.Broadcasts S256x128) : broadcastTo S256x128 b h (ix2 r f) = b (ix2 0 f) :=
    broadcastTo_apply _ _ _ _ fun a => by
      match a with
      | ⟨0, _⟩ => rfl
      | ⟨1, _⟩ => rfl
  unfold k3_pay1
  rw [shapeCast_self]
  show max ((shapeCast S256x128 p _ (ix2 r f) + shapeCast S256x128 q _ (ix2 r f)) * Ideal.ofBits .f32 0x3E000000#32
    + broadcastTo S256x128 b _ (ix2 r f)) (Ideal.ofBits .f32 0x00000000#32) = _
  rw [e, e, eb, Ideal.ofBits_zero_f32]

/-- The second projection's block of features is a product of the first layer's rows with the weights. -/
theorem embed2_feat (p q : FVec Ideal S1x256x128 .f32) (b : FVec Ideal S1x128 .f32) (W : FVec Ideal S128x1024 .f32) (r : Fin 256) (c : Fin 1024) :
    k3_pay2 (F := Ideal) p q b W (ix2 r c) = feat (tab (k3_pay1 (F := Ideal) p q b)) (tab W) r c := by
  unfold k3_pay2
  exact product_apply none _ W r c

/-- The second projection's block of terms is a product of the carried vectors with the first layer's rows. -/
theorem embed2_term4 (p q : FVec Ideal S1x256x128 .f32) (b : FVec Ideal S1x128 .f32) (A : FVec Ideal S8x128 .f32) (h : Fin 8) (r : Fin 256) :
    k3_pay4 (F := Ideal) p q b A (ix2 h r) = ∑ f : Fin 128, A (ix2 h f) * k3_pay1 (F := Ideal) p q b (ix2 r f) := by
  unfold k3_pay4 k3_pay3
  rw [shapeCast_self]
  refine (product_apply none A _ h r).trans (Finset.sum_congr rfl fun f _ => ?_)
  exact congrArg (A (ix2 h f) * ·) (transpose2_apply _ _ f r)

/-- The two blocks of terms of the second projection are one expression. -/
theorem embed2_term5 (p q : FVec Ideal S1x256x128 .f32) (b : FVec Ideal S1x128 .f32) (A : FVec Ideal S8x128 .f32) :
    k3_pay5 (F := Ideal) p q b A = k3_pay4 (F := Ideal) p q b A := rfl

/-! ## The combining product -/

/-- The combining body's block: both layers' rows against their weights, and the bias. -/
theorem conv_apply (p q : FVec Ideal S1x256x128 .f32) (b : FVec Ideal S1x128 .f32) (x : FVec Ideal S256x128 .f32)
    (U V : FVec Ideal S128x128 .f32) (cb : FVec Ideal S1x128 .f32) (r : Fin 256) (f : Fin 128) :
    k4_pay1 (F := Ideal) p q b x U V cb (ix2 r f)
      = (∑ j : Fin 128, x (ix2 r j) * U (ix2 j f)) + (∑ j : Fin 128, k3_pay1 (F := Ideal) p q b (ix2 r j) * V (ix2 j f)) + cb (ix2 0 f) := by
  have eb (h : S1x128.Broadcasts S256x128) : broadcastTo S256x128 cb h (ix2 r f) = cb (ix2 0 f) :=
    broadcastTo_apply _ _ _ _ fun a => by
      match a with
      | ⟨0, _⟩ => rfl
      | ⟨1, _⟩ => rfl
  have e1 := product_apply none x U r f
  have e2 := product_apply none (k3_pay1 (F := Ideal) p q b) V r f
  rw [← e1, ← e2, ← eb broadcasts_S1x128_S256x128]
  unfold k4_pay1
  simp only [shapeCast_self]
  unfold k3_pay1
  simp only [shapeCast_self]
  rfl

/-! ## The bilinear product -/

/-- The bilinear body's block: the products of the rows of its two blocks. -/
theorem bilinear_apply (a b : FVec Ideal S512x128 .f32) (r c : Fin 512) :
    k5_pay1 (F := Ideal) a b (ix2 r c) = ∑ f : Fin 128, a (ix2 r f) * b (ix2 c f) := by
  unfold k5_pay1
  rw [shapeCast_self, shapeCast_self]
  exact productT_apply none a b r c

/-! ## The preparation -/

/-- Row `h` of an attention table times columns `128 h …` of the weights. -/
theorem prep_apply (W : FVec Ideal S128x1024 .f32) (a : FVec Ideal S1x128 .f32) (h : Fin 8)
    (hs : S128x1024.Slices ![0, h.val * 128] S128x128) (f : Fin 128) :
    FloatOps.matmul (DotDims.transposedRhs 1 128 128) none a (extractStridedSlice S128x128 ![0, h.val * 128] W hs : FVec Ideal S128x128 .f32)
      (constant S1x128 .f32 0x00000000#32) (ix2 (0 : Fin 1) f) = ∑ j : Fin 128, a (ix2 0 j) * W (ix2 f (col h j)) := by
  refine (productT_apply none a _ 0 f).trans (Finset.sum_congr rfl fun j _ => congrArg (a (ix2 0 j) * ·) ?_)
  exact extractStridedSlice_apply _ _ _ _ _ fun b => by
    match b with
    | ⟨0, _⟩ => exact (Nat.zero_add _).symm
    | ⟨1, _⟩ => rfl

end Cert.Proof

end
-- ==== Proof.KernelEdge.lean ====
/- The kernel program's edge stage: what its host operations between the launches compute from the attention terms, the
   feature table and the edge lists, as one function of arrays, and both layers' stretches read as that function. -/
module

public import proofs.«01_k».proof.Proof.Gen.KernelIdeal.Frame
public import Idealize.ShloMosaic.Lib.StableHlo.RunClose
public import proofs.«01_k».proof.Proof.Bodies

@[expose] public section

noncomputable section

namespace Cert.Proof.KernelEdge

open Cert.KernelIdeal Cert.KernelIdeal.Gen Idealize.ShloMosaic Idealize.ShloMosaic.TcCoe

/-- An edge list as a column of row numbers, a negative word moved up by `n`. -/
def wrapCol (n : BitVec 32) (v : IVec S330000 32) : IVec S330000x1 32 :=
  broadcastInDim S330000x1 ![0] bcast_S330000_S330000x1_0
    (select (cmpi .slt v (broadcastInDim S330000 ![] bcast_S_S330000 (constantI S_ 32 0#32)))
      (addi v (broadcastInDim S330000 ![] bcast_S_S330000 (constantI S_ 32 n))) v)

/-- An edge list as a column of row numbers. -/
def plainCol (v : IVec S330000 32) : IVec S330000x1 32 :=
  broadcastInDim S330000x1 ![0] bcast_S330000_S330000x1_0 v

/-- Per edge and head: the source's term plus the destination's. -/
def scores (s d : FVec Ideal S8x10240 .f32) (u v : IVec S330000 32) : FVec Ideal S330000x8 .f32 :=
  addf (transpose S330000x8 [1, 0]
      (Host.gather gather_S8x10240_S330000x1_S8x330000_0_1_n_n_1_1_81 s (wrapCol 10240#32 u))
      transposes_S8x330000_S330000x8_1_0)
    (transpose S330000x8 [1, 0]
      (Host.gather gather_S8x10240_S330000x1_S8x330000_0_1_n_n_1_1_81 d (wrapCol 10240#32 v))
      transposes_S8x330000_S330000x8_1_0)

/-- The leaky rectifier with slope `a`, entry by entry. -/
def rectified (a : FVec Ideal S_ .f32) (t : FVec Ideal S330000x8 .f32) : FVec Ideal S330000x8 .f32 :=
  select (cmpf .oge t (broadcastInDim S330000x8 ![] bcast_S_S330000x8 (constant (F := Ideal) S_ .f32 0x00000000#32))) t
    (mulf (broadcastInDim S330000x8 ![] bcast_S_S330000x8 a) t)

/-- Each edge's weight over the sum of the weights entering its destination. -/
def shares (w : FVec Ideal S330000x8 .f32) (v : IVec S330000 32) : FVec Ideal S330000x8 .f32 :=
  Host.divf w (Host.gather gather_S10000x8_S330000x1_S330000x8_1_0_n_n_0_1_18
    (Host.scatterAdd scatter_S10000x8_S330000x1_S330000x8_1_0_0_1
      (broadcastInDim S10000x8 ![] bcast_S_S10000x8 (constant (F := Ideal) S_ .f32 0x00000000#32)) (plainCol v) w)
    (wrapCol 10000#32 v))

/-- Each edge's message: over the heads, the source's features times the edge's share, summed. -/
def edgeSums (xw : FVec Ideal S10240x1024 .f32) (a : FVec Ideal S330000x8 .f32) (u : IVec S330000 32) :
    FVec Ideal S330000x128 .f32 :=
  Host.reduceAdd
    (mulf (shapeCast S330000x8x128
        (Host.gather gather_S10240x1024_S330000x1_S330000x1024_1_0_n_n_0_1_11024 xw (wrapCol 10240#32 u))
        shapeCasts_S330000x1024_S330000x8x128)
      (broadcastInDim S330000x8x128 ![0, 1, 2] bcast_S330000x8x1_S330000x8x128_0_1_2
        (broadcastInDim S330000x8x1 ![0, 1] bcast_S330000x8_S330000x8x1_0_1 a)))
    (constant (F := Ideal) S_ .f32 0x00000000#32) reducesTo_S330000x8x128_S330000x128_d1 h_S_

/-- The messages summed into their destinations. -/
def nodeSums (q : FVec Ideal S330000x128 .f32) (v : IVec S330000 32) : FVec Ideal S10000x128 .f32 :=
  Host.scatterAdd scatter_S10000x128_S330000x1_S330000x128_1_0_0_1
    (broadcastInDim S10000x128 ![] bcast_S_S10000x128 (constant (F := Ideal) S_ .f32 0x00000000#32)) (plainCol v) q

/-- A table of the nodes filled up with zero rows. -/
def padded (z : IVec S_ 32) (x : FVec Ideal S10000x128 .f32) : FVec Ideal S10240x128 .f32 :=
  pad S10240x128 ![0, 0] ![240, 0] ![0, 0] x (sitofp .f32 z) pads_S10000x128_S10240x128_02400_000 h_S_

/-- The two partial sums the next launch adds: the padded table and zeros. -/
def twoParts (x : FVec Ideal S10240x128 .f32) : FVec Ideal S2x10240x128 .f32 :=
  concatenate S2x10240x128 0
    [⟨S1x10240x128, broadcastInDim S1x10240x128 ![1, 2] bcast_S10240x128_S1x10240x128_1_2 x⟩,
     ⟨S1x10240x128, broadcastInDim S1x10240x128 ![1, 2] bcast_S10240x128_S1x10240x128_1_2
       (broadcastInDim S10240x128 ![] bcast_S_S10240x128 (constant (F := Ideal) S_ .f32 0x00000000#32))⟩]
    concatenates_S1x10240x128_S1x10240x128_S2x10240x128_d0

variable (V : Valuation τ sig (Elt Ideal))

/-- Layer 1, first stretch: the scores. -/
theorem scores_1 : StableHlo.after hostOps3 V (Proc.devRef .tc main_v28) = scores (V (Proc.devRef .tc main_v11_1)) (V (Proc.devRef .tc main_v11_2)) (V (Proc.devRef .tc main_v3)) (V (Proc.devRef .tc main_v7)) := by
  after_results_simp
  rfl

/-- Layer 1, first stretch: the slope. -/
theorem slope_1 : StableHlo.after hostOps3 V (Proc.devRef .tc main_cst) = constant (F := Ideal) S_ .f32 0x3E4CCCCD#32 := by
  after_results_simp

/-- Layer 1, second stretch: the rectified scores. -/
theorem rectified_1 : StableHlo.after hostOps3_1 V (Proc.devRef .tc main_v29) = rectified (V (Proc.devRef .tc main_cst)) (V (Proc.devRef .tc main_v28)) := by
  after_results_simp
  rfl

/-- Layer 1, third stretch: the messages summed into their destinations. -/
theorem nodeSums_1 : StableHlo.after hostOps3_2 V (Proc.devRef .tc main_v56) =
    nodeSums (edgeSums (V (Proc.devRef .tc main_v11_0)) (shares (Host.exp (F := Ideal) (s := S330000x8) (φ := .f32) (V (Proc.devRef .tc main_v29))) (V (Proc.devRef .tc main_v7))) (V (Proc.devRef .tc main_v3))) (V (Proc.devRef .tc main_v7)) := by
  after_results_simp
  rfl

/-- Layer 1, third stretch: the filler. -/
theorem filler_1 : StableHlo.after hostOps3_2 V (Proc.devRef .tc main_c_11) = constantI S_ 32 0#32 := by
  after_results_simp

/-- Layer 1, fourth stretch: the sums with filler rows. -/
theorem padded_1 : StableHlo.after hostOps3_3 V (Proc.devRef .tc main_v57) = padded (V (Proc.devRef .tc main_c_11)) (V (Proc.devRef .tc main_v56)) := by
  after_results_simp
  rfl

/-- Layer 1, fifth stretch: the two parts. -/
theorem twoParts_1 : StableHlo.after hostOps3_4 V (Proc.devRef .tc main_v61) = twoParts (V (Proc.devRef .tc main_v57)) := by
  after_results_simp
  rfl

/-- Layer 2, first stretch: the scores. -/
theorem scores_2 : StableHlo.after hostOps4 V (Proc.devRef .tc main_v80) = scores (V (Proc.devRef .tc main_v63_2)) (V (Proc.devRef .tc main_v63_3)) (V (Proc.devRef .tc main_v3)) (V (Proc.devRef .tc main_v7)) := by
  after_results_simp
  rfl

/-- Layer 2, first stretch: the slope. -/
theorem slope_2 : StableHlo.after hostOps4 V (Proc.devRef .tc main_cst_17) = constant (F := Ideal) S_ .f32 0x3E4CCCCD#32 := by
  after_results_simp

/-- Layer 2, second stretch: the rectified scores. -/
theorem rectified_2 : StableHlo.after hostOps4_1 V (Proc.devRef .tc main_v81) = rectified (V (Proc.devRef .tc main_cst_17)) (V (Proc.devRef .tc main_v80)) := by
  after_results_simp
  rfl

/-- Layer 2, third stretch: the messages summed into their destinations. -/
theorem nodeSums_2 : StableHlo.after hostOps4_2 V (Proc.devRef .tc main_v108) =
    nodeSums (edgeSums (V (Proc.devRef .tc main_v63_1)) (shares (Host.exp (F := Ideal) (s := S330000x8) (φ := .f32) (V (Proc.devRef .tc main_v81))) (V (Proc.devRef .tc main_v7))) (V (Proc.devRef .tc main_v3))) (V (Proc.devRef .tc main_v7)) := by
  after_results_simp
  rfl

/-- Layer 2, third stretch: the filler. -/
theorem filler_2 : StableHlo.after hostOps4_2 V (Proc.devRef .tc main_c_25) = constantI S_ 32 0#32 := by
  after_results_simp

/-- Layer 2, fourth stretch: the sums with filler rows. -/
theorem padded_2 : StableHlo.after hostOps4_3 V (Proc.devRef .tc main_v109) = padded (V (Proc.devRef .tc main_c_25)) (V (Proc.devRef .tc main_v108)) := by
  after_results_simp
  rfl

/-- Layer 2, fifth stretch: the two parts. -/
theorem twoParts_2 : StableHlo.after hostOps4_4 V (Proc.devRef .tc main_v113) = twoParts (V (Proc.devRef .tc main_v109)) := by
  after_results_simp
  rfl

end Cert.Proof.KernelEdge

end
-- ==== Proof.Index.lean ====
/- Whole-row gathers and row-summing scatters read at an index, at any extents; nothing here names a program. -/
module

public import Idealize.ShloMosaic.Lib.ValueIdx
public import Idealize.ShloMosaic.Lib.IdealHost
public import Idealize.ShloMosaic.Lib.Routing.OpsPair
public import Idealize.ShloMosaic.Lib.StableHlo.Predicate

@[expose] public section

noncomputable section

namespace Cert.Proof

open Idealize.ShloMosaic Idealize.ShloMosaic.ValueIdx

/-- Where the word `w` sends a row look-up in a table of `N` rows: read signed, then clamped to the table. -/
def rowOf (N : Nat) (hN : 0 < N) (w : BitVec 32) : Fin N := ⟨min w.toInt.toNat (N - 1), by omega⟩

section Gather
variable {α : Type}

/-- Dimension numbers of `x[idx]` for a table `[N, C]`: whole rows. -/
abbrev rowsDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- A gather of whole rows, read at `(e, c)`: column `c` of the row that index word `e` names. -/
theorem gather_rows {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (e : Fin n) (c : Fin C) :
    Host.gather (rowsDims N C n wf) x idx (ix2 e c) = x (ix2 (rowOf N hN (idx (ix2 e (0 : Fin 1)))) c) := by
  unfold Host.gather
  congr 1
  funext a
  refine Fin.ext ?_
  show (rowsDims N C n wf).start (ix2 e c) idx a + (rowsDims N C n wf).batchCoord (ix2 e c) a
      + (rowsDims N C n wf).offCoord (ix2 e c) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ (rowsDims N C n wf).startIndexMap from List.mem_singleton.mpr rfl)]
    have hsi : (rowsDims N C n wf).siIdx (ix2 e c) ⟨List.idxOf (0 : Fin 2) (rowsDims N C n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowsDims N C n wf).startIndexMap from by simp)]
    unfold GatherDims.offCoord
    rw [dif_pos (show (1 : Fin 2) ∈ (rowsDims N C n wf).sKept from (GatherDims.mem_sKept _ _).2 ⟨by simp, by simp⟩)]
    simp only [Nat.zero_add]
    rfl

/-- Dimension numbers of `x[:, idx]` for a table `[R, N]`: whole columns. -/
abbrev colsDims (R N n : Nat)
    (wf : GatherDims.WF ⟨2, ![R, N]⟩ ⟨2, ![n, 1]⟩ ⟨2, ![R, n]⟩ [0] [1] [] [1] [] 1 ![R, 1]) :
    GatherDims ⟨2, ![R, N]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- A gather of whole columns, read at `(r, e)`: row `r` of the column that index word `e` names. -/
theorem gather_cols {R N n : Nat} (hN : 0 < N)
    (wf : GatherDims.WF ⟨2, ![R, N]⟩ ⟨2, ![n, 1]⟩ ⟨2, ![R, n]⟩ [0] [1] [] [1] [] 1 ![R, 1])
    (x : (⟨2, ![R, N]⟩ : Shape).Idx → α) (idx : IVec ⟨2, ![n, 1]⟩ 32) (r : Fin R) (e : Fin n) :
    Host.gather (colsDims R N n wf) x idx (ix2 r e) = x (ix2 r (rowOf N hN (idx (ix2 e (0 : Fin 1))))) := by
  unfold Host.gather
  congr 1
  funext a
  refine Fin.ext ?_
  show (colsDims R N n wf).start (ix2 r e) idx a + (colsDims R N n wf).batchCoord (ix2 r e) a
      + (colsDims R N n wf).offCoord (ix2 r e) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · unfold GatherDims.start
    rw [dif_neg (show (0 : Fin 2) ∉ (colsDims R N n wf).startIndexMap from by simp)]
    unfold GatherDims.offCoord
    rw [dif_pos (show (0 : Fin 2) ∈ (colsDims R N n wf).sKept from (GatherDims.mem_sKept _ _).2 ⟨by simp, by simp⟩)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ (colsDims R N n wf).startIndexMap from List.mem_singleton.mpr rfl)]
    have hsi : (colsDims R N n wf).siIdx (ix2 r e) ⟨List.idxOf (1 : Fin 2) (colsDims R N n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Dimension numbers of `x[idx]` for a table `[N, H, C]`: whole `[H, C]` slabs. -/
abbrev slabDims (N H C n : Nat)
    (wf : GatherDims.WF ⟨3, ![N, H, C]⟩ ⟨2, ![n, 1]⟩ ⟨3, ![n, H, C]⟩ [1, 2] [0] [] [0] [] 1 ![1, H, C]) :
    GatherDims ⟨3, ![N, H, C]⟩ ⟨2, ![n, 1]⟩ ⟨3, ![n, H, C]⟩ where
  offsetDims := [1, 2]
  collapsedSliceDims := [0]
  operandBatchingDims := []
  startIndicesBatchingDims := []
  startIndexMap := [0]
  indexVectorDim := 1
  sliceSizes := ![1, H, C]
  wf := wf

/-- A gather of whole slabs, read at `(e, h, c)`: element `(h, c)` of the slab that index word `e` names. -/
theorem gather_slabs {N H C n : Nat} (hN : 0 < N)
    (wf : GatherDims.WF ⟨3, ![N, H, C]⟩ ⟨2, ![n, 1]⟩ ⟨3, ![n, H, C]⟩ [1, 2] [0] [] [0] [] 1 ![1, H, C])
    (x : (⟨3, ![N, H, C]⟩ : Shape).Idx → α) (idx : IVec ⟨2, ![n, 1]⟩ 32) (e : Fin n) (h : Fin H) (c : Fin C) :
    Host.gather (slabDims N H C n wf) x idx (ix3 e h c) = x (ix3 (rowOf N hN (idx (ix2 e (0 : Fin 1)))) h c) := by
  unfold Host.gather
  congr 1
  funext a
  refine Fin.ext ?_
  show (slabDims N H C n wf).start (ix3 e h c) idx a + (slabDims N H C n wf).batchCoord (ix3 e h c) a
      + (slabDims N H C n wf).offCoord (ix3 e h c) a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (slabDims N H C n wf).startIndexMap from List.mem_singleton.mpr rfl)]
    have hsi : (slabDims N H C n wf).siIdx (ix3 e h c) ⟨List.idxOf (0 : Fin 3) (slabDims N H C n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 3) ∉ (slabDims N H C n wf).startIndexMap from by simp)]
    unfold GatherDims.offCoord
    rw [dif_pos (show (1 : Fin 3) ∈ (slabDims N H C n wf).sKept from (GatherDims.mem_sKept _ _).2 ⟨by simp, by simp⟩)]
    simp only [Nat.zero_add]
    rfl
  · unfold GatherDims.start
    rw [dif_neg (show (2 : Fin 3) ∉ (slabDims N H C n wf).startIndexMap from by simp)]
    unfold GatherDims.offCoord
    rw [dif_pos (show (2 : Fin 3) ∈ (slabDims N H C n wf).sKept from (GatherDims.mem_sKept _ _).2 ⟨by simp, by simp⟩)]
    simp only [Nat.zero_add]
    rfl

end Gather

section Scatter

/-- Dimension numbers of a sum of rows `[n, C]` into a table `[N, C]`, one index word to a row. -/
abbrev sumRowsDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- Element `(e, c)` of the updates lands at `(r, c')` exactly when index word `e` is `r` and the columns agree. -/
theorem sumRows_lands {N C n : Nat} (wf : ScatterDims.WF ⟨2, ![N, C]⟩ ⟨2, ![n, 1]⟩ ⟨2, ![n, C]⟩ [1] [0] [0] 1)
    (idx : IVec ⟨2, ![n, 1]⟩ 32) (e : Fin n) (c : Fin C) (r : Fin N) (c' : Fin C) :
    (sumRowsDims N C n wf).resultIdx? (ix2 e c) idx = some (ix2 r c')
      ↔ (idx (ix2 e (0 : Fin 1))).toInt = r.val ∧ c = c' := by
  rw [Routing.resultIdx?_ix2]
  have hsi : (sumRowsDims N C n wf).siIdx (ix2 e c) ⟨List.idxOf (0 : Fin 2) (sumRowsDims N C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (sumRowsDims N C n wf).start (ix2 e c) idx 0 = (idx (ix2 e (0 : Fin 1))).toInt := by
    unfold ScatterDims.start
    rw [dif_pos (show (0 : Fin 2) ∈ (sumRowsDims N C n wf).scatterDimsToOperandDims from List.mem_singleton.mpr rfl), hsi]
  have h1 : (sumRowsDims N C n wf).start (ix2 e c) idx 1 = 0 := by
    unfold ScatterDims.start
    rw [dif_neg (show (1 : Fin 2) ∉ (sumRowsDims N C n wf).scatterDimsToOperandDims from by simp)]
  have w0 : (sumRowsDims N C n wf).window (ix2 e c) 0 = 0 := by
    unfold ScatterDims.window
    rw [dif_neg (fun h => (of_decide_eq_true (List.mem_filter.1 h).2) (List.mem_singleton.mpr rfl))]
  have w1 : (sumRowsDims N C n wf).window (ix2 e c) 1 = c.val := by
    unfold ScatterDims.window
    rw [dif_pos (show (1 : Fin 2) ∈ (sumRowsDims N C n wf).sKept from List.mem_filter.2 ⟨List.mem_finRange _, by simp⟩)]
    rfl
  rw [h0, h1, w0, w1]
  constructor
  · rintro ⟨p, q⟩; exact ⟨by omega, Fin.ext (by omega)⟩
  · rintro ⟨p, rfl⟩; exact ⟨by omega, by omega⟩

/-- A sum of rows into a table, read at `(r, c)`: the table's element plus the updates of column `c` whose word is `r`. -/
theorem sumRows_apply {N C n : Nat} (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ 32) (upd : (⟨2, ![n, C]⟩ : Shape).Idx → EReal)
    (r : Fin N) (c : Fin C) :
    Ideal.hostScatterAdd (sumRowsDims N C n wf) x idx upd (ix2 r c)
      = x (ix2 r c) + ∑ e ∈ Finset.univ.filter (fun e : Fin n => (idx (ix2 e (0 : Fin 1))).toInt = r.val), upd (ix2 e c) := by
  unfold Ideal.hostScatterAdd
  congr 1
  rw [Finset.sum_filter, sum_idx2, Finset.sum_filter]
  refine Finset.sum_congr rfl fun e _ => ?_
  rw [Finset.sum_eq_single c]
  · exact if_congr ((sumRows_lands wf idx e c r c).trans (and_iff_left rfl)) rfl rfl
  · intro c' _ hc
    exact if_neg fun h => hc ((sumRows_lands wf idx e c' r c).1 h).2
  · exact fun h => (h (Finset.mem_univ _)).elim

/-- Dimension numbers of a sum of slabs `[n, H, C]` into a table `[N, H, C]`, one index word to a slab. -/
abbrev sumSlabDims (N H C n : Nat)
    (wf : ScatterDims.WF ⟨3, ![N, H, C]⟩ ⟨2, ![n, 1]⟩ ⟨3, ![n, H, C]⟩ [1, 2] [0] [0] 1) :
    ScatterDims ⟨3, ![N, H, C]⟩ ⟨2, ![n, 1]⟩ ⟨3, ![n, H, C]⟩ where
  updateWindowDims := [1, 2]
  insertedWindowDims := [0]
  scatterDimsToOperandDims := [0]
  indexVectorDim := 1
  wf := wf

/-- A rank-3 index is its three coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- A sum over a rank-3 index set is a triple sum. -/
theorem sum_idx3 {M : Type*} [AddCommMonoid M] {n0 n1 n2 : Nat} (f : (⟨3, ![n0, n1, n2]⟩ : Shape).Idx → M) :
    ∑ j, f j = ∑ a, ∑ b, ∑ c, f (ix3 a b c) := by
  rw [← idxEquiv3.symm.sum_comp, Fintype.sum_prod_type]
  refine Finset.sum_congr rfl fun a _ => ?_
  rw [Fintype.sum_prod_type]
  rfl

/-- Element `(e, h, c)` of the updates lands at `(r, h', c')` exactly when index word `e` is `r` and the rest agrees. -/
theorem sumSlabs_lands {N H C n : Nat}
    (wf : ScatterDims.WF ⟨3, ![N, H, C]⟩ ⟨2, ![n, 1]⟩ ⟨3, ![n, H, C]⟩ [1, 2] [0] [0] 1)
    (idx : IVec ⟨2, ![n, 1]⟩ 32) (e : Fin n) (h : Fin H) (c : Fin C) (r : Fin N) (h' : Fin H) (c' : Fin C) :
    (sumSlabDims N H C n wf).resultIdx? (ix3 e h c) idx = some (ix3 r h' c')
      ↔ (idx (ix2 e (0 : Fin 1))).toInt = r.val ∧ h = h' ∧ c = c' := by
  rw [Routing.resultIdx?_eq_some]
  have hsi : (sumSlabDims N H C n wf).siIdx (ix3 e h c) ⟨List.idxOf (0 : Fin 3) (sumSlabDims N H C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have h0 : (sumSlabDims N H C n wf).start (ix3 e h c) idx 0 = (idx (ix2 e (0 : Fin 1))).toInt := by
    unfold ScatterDims.start
    rw [dif_pos (show (0 : Fin 3) ∈ (sumSlabDims N H C n wf).scatterDimsToOperandDims from List.mem_singleton.mpr rfl), hsi]
  have h1 : (sumSlabDims N H C n wf).start (ix3 e h c) idx 1 = 0 := by
    unfold ScatterDims.start
    rw [dif_neg (show (1 : Fin 3) ∉ (sumSlabDims N H C n wf).scatterDimsToOperandDims from by simp)]
  have h2 : (sumSlabDims N H C n wf).start (ix3 e h c) idx 2 = 0 := by
    unfold ScatterDims.start
    rw [dif_neg (show (2 : Fin 3) ∉ (sumSlabDims N H C n wf).scatterDimsToOperandDims from by simp)]
  have w0 : (sumSlabDims N H C n wf).window (ix3 e h c) 0 = 0 := by
    unfold ScatterDims.window
    rw [dif_neg (fun h => (of_decide_eq_true (List.mem_filter.1 h).2) (List.mem_singleton.mpr rfl))]
  have w1 : (sumSlabDims N H C n wf).window (ix3 e h c) 1 = h.val := by
    unfold ScatterDims.window
    rw [dif_pos (show (1 : Fin 3) ∈ (sumSlabDims N H C n wf).sKept from List.mem_filter.2 ⟨List.mem_finRange _, by simp⟩)]
    rfl
  have w2 : (sumSlabDims N H C n wf).window (ix3 e h c) 2 = c.val := by
    unfold ScatterDims.window
    rw [dif_pos (show (2 : Fin 3) ∈ (sumSlabDims N H C n wf).sKept from List.mem_filter.2 ⟨List.mem_finRange _, by simp⟩)]
    rfl
  constructor
  · intro q
    have q0 := q 0; have q1 := q 1; have q2 := q 2
    rw [h0, w0] at q0; rw [h1, w1] at q1; rw [h2, w2] at q2
    change _ = (r.val : Int) at q0; change _ = (h'.val : Int) at q1; change _ = (c'.val : Int) at q2
    exact ⟨by omega, Fin.ext (by omega), Fin.ext (by omega)⟩
  · rintro ⟨p, rfl, rfl⟩ a
    match a with
    | ⟨0, _⟩ => exact (congrArg₂ (fun (s : Int) (w : Nat) => s + (w : Int)) h0 w0).trans (by simpa using p)
    | ⟨1, _⟩ => exact (congrArg₂ (fun (s : Int) (w : Nat) => s + (w : Int)) h1 w1).trans (Int.zero_add _)
    | ⟨2, _⟩ => exact (congrArg₂ (fun (s : Int) (w : Nat) => s + (w : Int)) h2 w2).trans (Int.zero_add _)

/-- A sum of slabs into a table, read at `(r, h, c)`: the table's element plus the updates there whose word is `r`. -/
theorem sumSlabs_apply {N H C n : Nat}
    (wf : ScatterDims.WF ⟨3, ![N, H, C]⟩ ⟨2, ![n, 1]⟩ ⟨3, ![n, H, C]⟩ [1, 2] [0] [0] 1)
    (x : (⟨3, ![N, H, C]⟩ : Shape).Idx → EReal) (idx : IVec ⟨2, ![n, 1]⟩ 32)
    (upd : (⟨3, ![n, H, C]⟩ : Shape).Idx → EReal) (r : Fin N) (h : Fin H) (c : Fin C) :
    Ideal.hostScatterAdd (sumSlabDims N H C n wf) x idx upd (ix3 r h c)
      = x (ix3 r h c)
        + ∑ e ∈ Finset.univ.filter (fun e : Fin n => (idx (ix2 e (0 : Fin 1))).toInt = r.val), upd (ix3 e h c) := by
  unfold Ideal.hostScatterAdd
  congr 1
  rw [Finset.sum_filter, sum_idx3, Finset.sum_filter]
  refine Finset.sum_congr rfl fun e _ => ?_
  rw [Finset.sum_eq_single h]
  · rw [Finset.sum_eq_single c]
    · exact if_congr ((sumSlabs_lands wf idx e h c r h c).trans (and_iff_left ⟨rfl, rfl⟩)) rfl rfl
    · intro c' _ hc
      exact if_neg fun q => hc ((sumSlabs_lands wf idx e h c' r h c).1 q).2.2
    · exact fun q => (q (Finset.mem_univ _)).elim
  · intro h' _ hh
    exact Finset.sum_eq_zero fun c' _ => if_neg fun q => hh ((sumSlabs_lands wf idx e h' c' r h c).1 q).2.1
  · exact fun q => (q (Finset.mem_univ _)).elim

end Scatter

end Cert.Proof

end
-- ==== Proof.Edges.lean ====
/- Edge lists as words: what it takes for the words to name nodes, and the look-ups and sums that read them, at any extents. -/
module

public import proofs.«01_k».proof.Proof.Index
public import proofs.«01_k».proof.Proof.Spec
public import Idealize.ShloMosaic.Lib.Pipeline.Value

@[expose] public section

noncomputable section

namespace Cert.Proof

open Idealize.ShloMosaic Idealize.ShloMosaic.ValueIdx

variable {N n : Nat}

/-- The words of a list name the nodes `S`. -/
def Names (u : IVec ⟨1, ![n]⟩ 32) (S : Fin n → Fin N) : Prop := ∀ e, (u (ix1 e)).toNat = (S e).val

/-- The words of a column name the nodes `S`. -/
def ColNames (c : IVec ⟨2, ![n, 1]⟩ 32) (S : Fin n → Fin N) : Prop := ∀ e, (c (ix2 e (0 : Fin 1))).toNat = (S e).val

/-- A list set up as a column, read at a row. -/
theorem column_apply {α : Type} (h : (⟨1, ![n]⟩ : Shape).BroadcastsInDim ⟨2, ![n, 1]⟩ ![0]) (u : (⟨1, ![n]⟩ : Shape).Idx → α)
    (e : Fin n) : broadcastInDim ⟨2, ![n, 1]⟩ ![0] h u (ix2 e (0 : Fin 1)) = u (ix1 e) := by
  refine broadcastInDim_apply _ _ _ _ _ fun a => ?_
  rw [Subsingleton.elim a 0]
  show e.val = if n = 1 then 0 else e.val
  have := e.isLt
  split <;> omega

/-- Set up as a column, a list names the same nodes. -/
theorem Names.column {u : IVec ⟨1, ![n]⟩ 32} {S : Fin n → Fin N} (hu : Names u S)
    (h : (⟨1, ![n]⟩ : Shape).BroadcastsInDim ⟨2, ![n, 1]⟩ ![0]) : ColNames (broadcastInDim ⟨2, ![n, 1]⟩ ![0] h u) S := fun e => by
  rw [column_apply]; exact hu e

/-- Moving the negative words of a list up changes no word that names a node. -/
theorem Names.wrapped {u : IVec ⟨1, ![n]⟩ 32} {S : Fin n → Fin N} (hu : Names u S) (hN : N ≤ 2 ^ 31)
    (h₀ : (⟨0, ![]⟩ : Shape).BroadcastsInDim ⟨1, ![n]⟩ ![]) (a : IVec ⟨1, ![n]⟩ 32) :
    Names (select (cmpi .slt u (broadcastInDim ⟨1, ![n]⟩ ![] h₀ (constantI ⟨0, ![]⟩ 32 0#32))) a u) S := fun e => by
  have h := hu e
  have hS := (S e).isLt
  show (Scalar.select (IntOp.cmpi .slt (u (ix1 e)) (broadcastInDim ⟨1, ![n]⟩ ![] h₀ (constantI ⟨0, ![]⟩ 32 0#32) (ix1 e))) (a (ix1 e))
    (u (ix1 e))).toNat = _
  rw [broadcastInDim_scalar_apply]
  show (Scalar.select (IntOp.cmpi .slt (u (ix1 e)) 0#32) (a (ix1 e)) (u (ix1 e))).toNat = _
  rw [Routing.wrap_of_lt _ _ (by omega), h]

variable {c : IVec ⟨2, ![n, 1]⟩ 32} {S : Fin n → Fin N}

/-- A word that names a node looks up that node's row in a table with rows for all the nodes. -/
theorem ColNames.rowOf_eq (hc : ColNames c S) {M : Nat} (hM : 0 < M) (hNM : N ≤ M) (hN : N ≤ 2 ^ 31) (e : Fin n) :
    rowOf M hM (c (ix2 e (0 : Fin 1))) = Fin.castLE hNM (S e) := by
  have h := hc e
  have hS := (S e).isLt
  refine Fin.ext ?_
  show min (c (ix2 e (0 : Fin 1))).toInt.toNat (M - 1) = (S e).val
  rw [StableHlo.Predicate.toInt_eq_toNat_of_lt (by omega), h, Int.toNat_natCast]
  omega

/-- A word that names a node is that node's number read signed. -/
theorem ColNames.toInt_eq (hc : ColNames c S) (hN : N ≤ 2 ^ 31) (e : Fin n) (i : Fin N) :
    (c (ix2 e (0 : Fin 1))).toInt = i.val ↔ S e = i := by
  have h := hc e
  have hS := (S e).isLt
  rw [StableHlo.Predicate.toInt_eq_toNat_of_lt (by omega), h, Fin.ext_iff]
  exact Nat.cast_inj

/-- The edges whose word is a node's number are the edges at that node. -/
theorem ColNames.filter_eq (hc : ColNames c S) (hN : N ≤ 2 ^ 31) (i : Fin N) :
    Finset.univ.filter (fun e : Fin n => (c (ix2 e (0 : Fin 1))).toInt = i.val) = Finset.univ.filter (fun e => S e = i) :=
  Finset.filter_congr fun e _ => hc.toInt_eq hN e i

section Reads
variable {M C H : Nat}

/-- A whole-row look-up by words that name nodes. -/
theorem ColNames.rows {α : Type} (hc : ColNames c S) (hM : 0 < M) (hNM : N ≤ M) (hN : N ≤ 2 ^ 31)
    (wf : GatherDims.WF ⟨2, ![M, C]⟩ ⟨2, ![n, 1]⟩ ⟨2, ![n, C]⟩ [1] [0] [] [0] [] 1 ![1, C])
    (x : (⟨2, ![M, C]⟩ : Shape).Idx → α) (e : Fin n) (k : Fin C) :
    Host.gather (rowsDims M C n wf) x c (ix2 e k) = x (ix2 (Fin.castLE hNM (S e)) k) := by
  rw [gather_rows hM, hc.rowOf_eq hM hNM hN]

/-- A whole-column look-up by words that name nodes. -/
theorem ColNames.cols {α : Type} (hc : ColNames c S) (hM : 0 < M) (hNM : N ≤ M) (hN : N ≤ 2 ^ 31)
    (wf : GatherDims.WF ⟨2, ![C, M]⟩ ⟨2, ![n, 1]⟩ ⟨2, ![C, n]⟩ [0] [1] [] [1] [] 1 ![C, 1])
    (x : (⟨2, ![C, M]⟩ : Shape).Idx → α) (k : Fin C) (e : Fin n) :
    Host.gather (colsDims C M n wf) x c (ix2 k e) = x (ix2 k (Fin.castLE hNM (S e))) := by
  rw [gather_cols hM, hc.rowOf_eq hM hNM hN]

/-- A look-up of whole slabs by words that name nodes. -/
theorem ColNames.slabs {α : Type} (hc : ColNames c S) (hM : 0 < N) (hN : N ≤ 2 ^ 31)
    (wf : GatherDims.WF ⟨3, ![N, H, C]⟩ ⟨2, ![n, 1]⟩ ⟨3, ![n, H, C]⟩ [1, 2] [0] [] [0] [] 1 ![1, H, C])
    (x : (⟨3, ![N, H, C]⟩ : Shape).Idx → α) (e : Fin n) (h : Fin H) (k : Fin C) :
    Host.gather (slabDims N H C n wf) x c (ix3 e h k) = x (ix3 (S e) h k) := by
  rw [gather_slabs hM, hc.rowOf_eq hM (Nat.le_refl N) hN]
  rfl

/-- Rows summed into a zero table by words that name nodes. -/
theorem ColNames.sumRows (hc : ColNames c S) (hN : N ≤ 2 ^ 31)
    (wf : ScatterDims.WF ⟨2, ![N, C]⟩ ⟨2, ![n, 1]⟩ ⟨2, ![n, C]⟩ [1] [0] [0] 1)
    (x upd : FVec Ideal _ .f32) (hx : ∀ j, x j = 0) (i : Fin N) (k : Fin C) :
    Host.scatterAdd (sumRowsDims N C n wf) x c upd (ix2 i k) = gatherIn S (fun e => upd (ix2 e k)) i := by
  refine (sumRows_apply wf x c upd i k).trans ?_
  rw [hc.filter_eq hN, hx]
  rfl

/-- Slabs summed into a zero table by words that name nodes. -/
theorem ColNames.sumSlabs (hc : ColNames c S) (hN : N ≤ 2 ^ 31)
    (wf : ScatterDims.WF ⟨3, ![N, H, C]⟩ ⟨2, ![n, 1]⟩ ⟨3, ![n, H, C]⟩ [1, 2] [0] [0] 1)
    (x upd : FVec Ideal _ .f32) (hx : ∀ j, x j = 0) (i : Fin N) (h : Fin H) (k : Fin C) :
    Host.scatterAdd (sumSlabDims N H C n wf) x c upd (ix3 i h k) = gatherIn S (fun e => upd (ix3 e h k)) i := by
  refine (sumSlabs_apply wf x c upd i h k).trans ?_
  rw [hc.filter_eq hN, hx]
  rfl

/-- A scalar zero spread over an array is zero everywhere. -/
theorem zeros_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

variable {A B K : Nat}

/-- A sum over the middle one of three axes, from zero. -/
theorem middle_sum {u : Shape} (X : FVec Ideal ⟨3, ![A, B, K]⟩ .f32) (z : FVec Ideal u .f32)
    (h : (⟨3, ![A, B, K]⟩ : Shape).ReducesTo [1] ⟨2, ![A, K]⟩) (hu : 0 < u.numel) (hz : ∀ j, z j = 0) (a : Fin A) (k : Fin K) :
    Host.reduceAdd X z h hu (ix2 a k) = 0 + ∑ b : Fin B, X (ix3 a b k) := by
  have h' : (⟨3, ![A, B, K]⟩ : Shape).Reduces [1] ⟨2, ![A, K]⟩ := ⟨h.1, Nat.two_pos, h.2⟩
  rw [hostReduceAdd_apply, Ideal.hostReduceAdd_single h h', hz]
  refine congrArg (fun w : EReal => 0 + w) (Finset.sum_congr rfl fun b _ => congrArg X (funext fun d => Fin.ext ?_))
  match d with
  | ⟨0, _⟩ => rfl
  | ⟨1, _⟩ => rfl
  | ⟨2, _⟩ => rfl

/-- A sum over the last one of three axes, from zero. -/
theorem last_sum {u : Shape} (X : FVec Ideal ⟨3, ![A, B, K]⟩ .f32) (z : FVec Ideal u .f32)
    (h : (⟨3, ![A, B, K]⟩ : Shape).ReducesTo [2] ⟨2, ![A, B]⟩) (hu : 0 < u.numel) (hz : ∀ j, z j = 0) (a : Fin A) (b : Fin B) :
    Host.reduceAdd X z h hu (ix2 a b) = 0 + ∑ k : Fin K, X (ix3 a b k) := by
  have h' : (⟨3, ![A, B, K]⟩ : Shape).Reduces [2] ⟨2, ![A, B]⟩ := ⟨h.1, Nat.two_pos, h.2⟩
  rw [hostReduceAdd_apply, Ideal.hostReduceAdd_single h h', hz]
  refine congrArg (fun w : EReal => 0 + w) (Finset.sum_congr rfl fun k _ => congrArg X (funext fun d => Fin.ext ?_))
  match d with
  | ⟨0, _⟩ => rfl
  | ⟨1, _⟩ => rfl
  | ⟨2, _⟩ => rfl

/-- A table of rows of `B` runs of `K` entries, cut into its runs. -/
theorem runs_apply {α : Type} (x : (⟨2, ![A, B * K]⟩ : Shape).Idx → α)
    (h : (⟨2, ![A, B * K]⟩ : Shape).ShapeCasts ⟨3, ![A, B, K]⟩) (a : Fin A) (b : Fin B) (k : Fin K) (m : Fin (B * K))
    (hm : m.val = b.val * K + k.val) : shapeCast ⟨3, ![A, B, K]⟩ x h (ix3 a b k) = x (ix2 a m) := by
  refine shapeCast_apply _ _ _ _ ?_
  rw [Shape.rowMajor_val_two, Shape.rowMajor_val_three]
  show a.val * (B * K) + m.val = (a.val * B + b.val) * K + k.val
  rw [hm, Nat.add_mul, Nat.mul_assoc]
  omega

/-- A table of two axes spread along a third, in two steps. -/
theorem spread_apply {α : Type} (h₁ : (⟨2, ![A, B]⟩ : Shape).BroadcastsInDim ⟨3, ![A, B, 1]⟩ ![0, 1])
    (h₂ : (⟨3, ![A, B, 1]⟩ : Shape).BroadcastsInDim ⟨3, ![A, B, K]⟩ ![0, 1, 2]) (x : (⟨2, ![A, B]⟩ : Shape).Idx → α)
    (a : Fin A) (b : Fin B) (k : Fin K) :
    broadcastInDim ⟨3, ![A, B, K]⟩ ![0, 1, 2] h₂ (broadcastInDim ⟨3, ![A, B, 1]⟩ ![0, 1] h₁ x) (ix3 a b k) = x (ix2 a b) := by
  have ha := a.isLt
  have hb := b.isLt
  rw [broadcastInDim_apply ![0, 1, 2] h₂ _ _ (ix3 a b (0 : Fin 1)) fun d => ?_,
    broadcastInDim_apply ![0, 1] h₁ _ _ (ix2 a b) fun d => ?_]
  · match d with
    | ⟨0, _⟩ => show a.val = if A = 1 then 0 else a.val; split <;> omega
    | ⟨1, _⟩ => show b.val = if B = 1 then 0 else b.val; split <;> omega
  · match d with
    | ⟨0, _⟩ => show a.val = if A = 1 then 0 else a.val; split <;> omega
    | ⟨1, _⟩ => show b.val = if B = 1 then 0 else b.val; split <;> omega
    | ⟨2, _⟩ => show (0 : Nat) = if (1 : Nat) = 1 then 0 else k.val; rfl

end Reads

end Cert.Proof

end
-- ==== Proof.KernelMessages.lean ====
/- The kernel program's edge stage read at an index, for edge lists that name nodes. -/
module

public import proofs.«01_k».proof.Proof.KernelEdge
public import proofs.«01_k».proof.Proof.Edges
public import Idealize.ShloMosaic.Lib.KernelVsHost

@[expose] public section

noncomputable section

namespace Cert.Proof.KernelEdge

open Cert.KernelIdeal Cert.KernelIdeal.Gen Idealize.ShloMosaic Idealize.ShloMosaic.ValueIdx

/-- A node's row in the tables with filler rows. -/
abbrev up (i : Fin 10000) : Fin 10240 := Fin.castLE (by decide) i

variable {u v : IVec S330000 32} {S D : Fin 330000 → Fin 10000}

/-- The wrapped column of a list names the nodes the list names. -/
theorem wrapCol_names (n : BitVec 32) (hu : Names u S) : ColNames (wrapCol n u) S :=
  (hu.wrapped (by decide) _ _).column _

/-- The plain column of a list names the nodes the list names. -/
theorem plainCol_names (hu : Names u S) : ColNames (plainCol u) S := hu.column _

/-- The look-up of an edge's term, one column of the terms' table per edge. -/
theorem term_apply (x : FVec Ideal S8x10240 .f32) (hu : Names u S) (e : Fin 330000) (h : Fin 8) :
    transpose S330000x8 [1, 0]
        (Host.gather gather_S8x10240_S330000x1_S8x330000_0_1_n_n_1_1_81 x (wrapCol 10240#32 u))
        transposes_S8x330000_S330000x8_1_0 (ix2 e h) = x (ix2 h (up (S e))) := by
  rw [transpose_apply [1, 0] _ transposes_S8x330000_S330000x8_1_0 (ix2 e h) (ix2 h e)
    (fun b => by match b with | ⟨0, _⟩ => rfl | ⟨1, _⟩ => rfl)]
  exact (wrapCol_names 10240#32 hu).cols (M := 10240) (C := 8) (by decide) (by decide) (by decide) _ x h e

/-- An edge's score is its source's term plus its destination's. -/
theorem scores_apply (hu : Names u S) (hv : Names v D) (s d : FVec Ideal S8x10240 .f32) (e : Fin 330000) (h : Fin 8) :
    scores s d u v (ix2 e h) = s (ix2 h (up (S e))) + d (ix2 h (up (D e))) := by
  unfold scores
  rw [addf_apply, term_apply s hu, term_apply d hv]

/-- The leaky rectifier with the printed slope, at an index. -/
theorem rectified_apply (t : FVec Ideal S330000x8 .f32) (j : S330000x8.Idx) :
    rectified (constant (F := Ideal) S_ .f32 0x3E4CCCCD#32) t j = leaky (t j) := by
  unfold rectified leaky
  rw [select_apply, cmpf_apply, mulf_apply, zeros_apply, broadcastInDim_scalar_apply]
  rfl

/-- An edge's share is its weight over the sum of the weights entering its destination. -/
theorem shares_apply (hv : Names v D) (w : FVec Ideal S330000x8 .f32) (e : Fin 330000) (h : Fin 8) :
    shares w v (ix2 e h) = share (fun e h => w (ix2 e h)) D e h := by
  unfold shares share
  rw [hostDivf_apply]
  refine congrArg (Ideal.div (w (ix2 e h))) ?_
  refine ((wrapCol_names 10000#32 hv).rows (M := 10000) (C := 8) (by decide) (by decide) (by decide) _ _ e h).trans ?_
  exact (plainCol_names hv).sumRows (C := 8) (by decide) _ _ w (fun j => zeros_apply _ j) (D e) h

/-- An edge's message: over the heads, its source's features times its share. -/
theorem edgeSums_apply (hu : Names u S) (xw : FVec Ideal S10240x1024 .f32) (a : FVec Ideal S330000x8 .f32)
    (e : Fin 330000) (f : Fin 128) :
    edgeSums xw a u (ix2 e f) = 0 + ∑ h : Fin 8, xw (ix2 (up (S e)) (col h f)) * a (ix2 e h) := by
  unfold edgeSums
  refine (middle_sum (A := 330000) (B := 8) (K := 128) _ _ _ _ (fun j => by rw [constant_apply, Ideal.ofBits_zero_f32]) e f).trans ?_
  refine congrArg (fun w : EReal => 0 + w) (Finset.sum_congr rfl fun h _ => ?_)
  rw [mulf_apply]
  refine congrArg₂ (fun w z : EReal => w * z) ?_ (spread_apply (A := 330000) (B := 8) (K := 128) _ _ a e h f)
  refine (runs_apply (A := 330000) (B := 8) (K := 128) _ _ e h f (col h f) rfl).trans ?_
  exact (wrapCol_names 10240#32 hu).rows (M := 10240) (C := 1024) (by decide) (by decide) (by decide) _ xw e (col h f)

/-- The messages summed into a node. -/
theorem nodeSums_apply (hv : Names v D) (q : FVec Ideal S330000x128 .f32) (i : Fin 10000) (f : Fin 128) :
    nodeSums q v (ix2 i f) = gatherIn D (fun e => q (ix2 e f)) i := by
  unfold nodeSums
  exact (plainCol_names hv).sumRows (C := 128) (by decide) _ _ q (fun j => zeros_apply _ j) i f

/-- THE EDGE STAGE: from the terms and the features at the nodes, the message sums of the layer. -/
theorem messages_apply (hu : Names u S) (hv : Names v D) (s d : FVec Ideal S8x10240 .f32) (xw : FVec Ideal S10240x1024 .f32)
    (i : Fin 10000) (f : Fin 128) :
    nodeSums (edgeSums xw (shares (Host.exp (F := Ideal) (s := S330000x8) (φ := .f32)
        (rectified (constant (F := Ideal) S_ .f32 0x3E4CCCCD#32) (scores s d u v))) v) u) v (ix2 i f)
      = messagesK (fun i h => s (ix2 h (up i))) (fun i h => d (ix2 h (up i))) (fun i c => xw (ix2 (up i) c)) S D i f := by
  have hw : (fun (e : Fin 330000) (h : Fin 8) => Host.exp (F := Ideal) (s := S330000x8) (φ := .f32)
        (rectified (constant (F := Ideal) S_ .f32 0x3E4CCCCD#32) (scores s d u v)) (ix2 e h))
      = weightK (logit (fun i h => s (ix2 h (up i))) (fun i h => d (ix2 h (up i))) S D) := by
    funext e h
    show Ideal.exp (rectified (constant (F := Ideal) S_ .f32 0x3E4CCCCD#32) (scores s d u v) (ix2 e h)) = _
    rw [rectified_apply, scores_apply hu hv]
    rfl
  rw [nodeSums_apply hv]
  unfold messagesK gatheredK
  refine congrArg (fun q => gatherIn D q i) (funext fun e => ?_)
  rw [edgeSums_apply hu]
  refine congrArg (fun w : EReal => 0 + w) (Finset.sum_congr rfl fun h _ => ?_)
  rw [shares_apply hv, hw]

/-- The table of the nodes read at a node. -/
theorem padded_apply (z : IVec S_ 32) (x : FVec Ideal S10000x128 .f32) (i : Fin 10000) (f : Fin 128) :
    padded z x (ix2 (up i) f) = x (ix2 i f) := by
  unfold padded
  refine pad_apply_of_inside _ _ _ _ _ _ _ _ (ix2 i f) fun a => ?_
  match a with
  | ⟨0, _⟩ => show i.val = 0 + i.val * (0 + 1); omega
  | ⟨1, _⟩ => show f.val = 0 + f.val * (0 + 1); omega

/-- The first part is the table. -/
theorem twoParts_zero (x : FVec Ideal S10240x128 .f32) (r : Fin 10240) (f : Fin 128) :
    twoParts x (ix3 (0 : Fin 2) r f) = x (ix2 r f) := by
  unfold twoParts
  rw [concatenate_pair_apply_left (t := S2x10240x128) (s₁ := S1x10240x128) (s₂ := S1x10240x128) 0 _ _ _ (ix3 (0 : Fin 2) r f) rfl
    (ix3 (0 : Fin 1) r f) (fun b => by match b with | ⟨0, _⟩ => rfl | ⟨1, _⟩ => rfl | ⟨2, _⟩ => rfl)]
  refine broadcastInDim_apply (s := S10240x128) (t := S1x10240x128) ![1, 2] _ _ _ (ix2 r f) fun a => ?_
  match a with
  | ⟨0, _⟩ => rfl
  | ⟨1, _⟩ => rfl

/-- The second part is zero. -/
theorem twoParts_one (x : FVec Ideal S10240x128 .f32) (r : Fin 10240) (f : Fin 128) :
    twoParts x (ix3 (1 : Fin 2) r f) = 0 := by
  unfold twoParts
  rw [concatenate_pair_apply_right (t := S2x10240x128) (s₁ := S1x10240x128) (s₂ := S1x10240x128) 0 _ _ _ (ix3 (1 : Fin 2) r f) rfl rfl
    (ix3 (0 : Fin 1) r f) (fun b => by match b with | ⟨0, _⟩ => exact fun h => absurd rfl h | ⟨1, _⟩ => exact fun _ => rfl | ⟨2, _⟩ => exact fun _ => rfl)
    rfl]
  refine (broadcastInDim_apply (s := S10240x128) (t := S1x10240x128) ![1, 2] _ _ _ (ix2 r f) fun a => ?_).trans (zeros_apply _ _)
  match a with
  | ⟨0, _⟩ => rfl
  | ⟨1, _⟩ => rfl

end Cert.Proof.KernelEdge

end
-- ==== Proof.EdgeList.lean ====
/- The edge list the programs build from the edge table: its given edges followed by one self loop per node. -/
module

public import proofs.«01_k».proof.Proof.Edges

@[expose] public section

noncomputable section

namespace Cert.Proof

open Idealize.ShloMosaic Idealize.ShloMosaic.ValueIdx

/-- Row `r` of the edge table followed by the numbers of the nodes. -/
def edgeList (r : Fin 2) (hs : (⟨2, ![2, 320000]⟩ : Shape).Slices ![r.val, 0] ⟨2, ![1, 320000]⟩)
    (hc : (⟨2, ![1, 320000]⟩ : Shape).ShapeCasts ⟨1, ![320000]⟩)
    (hp : Shape.Concatenates [⟨1, ![320000]⟩, ⟨1, ![10000]⟩] (⟨1, ![330000]⟩ : Shape) 0)
    (x : IVec ⟨2, ![2, 320000]⟩ 32) : IVec ⟨1, ![330000]⟩ 32 :=
  concatenate ⟨1, ![330000]⟩ 0
    [⟨⟨1, ![320000]⟩, shapeCast ⟨1, ![320000]⟩ (extractStridedSlice ⟨2, ![1, 320000]⟩ ![r.val, 0] x hs) hc⟩,
     ⟨⟨1, ![10000]⟩, iotaInDim ⟨1, ![10000]⟩ 32 0⟩] hp

variable {r : Fin 2} {hs : (⟨2, ![2, 320000]⟩ : Shape).Slices ![r.val, 0] ⟨2, ![1, 320000]⟩}
  {hc : (⟨2, ![1, 320000]⟩ : Shape).ShapeCasts ⟨1, ![320000]⟩}
  {hp : Shape.Concatenates [⟨1, ![320000]⟩, ⟨1, ![10000]⟩] (⟨1, ![330000]⟩ : Shape) 0}
  (x : IVec ⟨2, ![2, 320000]⟩ 32)

/-- A given edge's word. -/
theorem edgeList_given (e : Fin 330000) (e' : Fin 320000) (h : e.val = e'.val) :
    edgeList r hs hc hp x (ix1 e) = x (ix2 r e') := by
  unfold edgeList
  rw [concatenate_pair_apply_left (t := ⟨1, ![330000]⟩) (s₁ := ⟨1, ![320000]⟩) (s₂ := ⟨1, ![10000]⟩) 0 _ _ _ (ix1 e) rfl (ix1 e')
    (fun b => by rw [Subsingleton.elim b 0]; exact h.symm)]
  rw [shapeCast_apply _ _ _ (ix2 (0 : Fin 1) e') (by
    rw [Shape.rowMajor_val_two, Shape.rowMajor_val_one]; show 0 * 320000 + e'.val = e'.val; omega)]
  refine extractStridedSlice_apply _ _ _ _ _ fun a => ?_
  match a with
  | ⟨0, _⟩ => rfl
  | ⟨1, _⟩ => show e'.val = 0 + e'.val; omega

/-- A self loop's word. -/
theorem edgeList_loop (e : Fin 330000) (i : Fin 10000) (h : e.val = i.val + 320000) :
    edgeList r hs hc hp x (ix1 e) = BitVec.ofNat 32 i.val := by
  unfold edgeList
  rw [concatenate_pair_apply_right (t := ⟨1, ![330000]⟩) (s₁ := ⟨1, ![320000]⟩) (s₂ := ⟨1, ![10000]⟩) 0 _ _ _ (ix1 e) rfl rfl (ix1 i)
    (fun b hb => absurd (Subsingleton.elim _ _) hb) h.symm, iotaInDim_apply]

/-- An edge table whose words are node numbers gives a list that names nodes, in which every node has a self loop. -/
theorem edgeList_names (hx : ∀ e, (x (ix2 r e)).toNat < 10000) :
    ∃ S : Fin 330000 → Fin 10000, Names (edgeList r hs hc hp x) S ∧ ∀ i : Fin 10000, ∃ e, S e = i := by
  have h : ∀ e : Fin 330000, (edgeList r hs hc hp x (ix1 e)).toNat < 10000 := fun e => by
    rcases Nat.lt_or_ge e.val 320000 with he | he
    · rw [edgeList_given x e ⟨e.val, he⟩ rfl]; exact hx _
    · have := e.isLt
      rw [edgeList_loop x e ⟨e.val - 320000, by omega⟩ (by show e.val = e.val - 320000 + 320000; omega), BitVec.toNat_ofNat,
        Nat.mod_eq_of_lt (by show e.val - 320000 < _; omega)]
      show e.val - 320000 < 10000
      omega
  refine ⟨fun e => ⟨_, h e⟩, fun e => rfl, fun i => ?_⟩
  have hi := i.isLt
  obtain ⟨e, he⟩ : ∃ e : Fin 330000, e.val = i.val + 320000 := ⟨⟨i.val + 320000, by omega⟩, rfl⟩
  have hw : (edgeList r hs hc hp x (ix1 e)).toNat = i.val := by
    rw [edgeList_loop x e i he, BitVec.toNat_ofNat, Nat.mod_eq_of_lt (by omega)]
  exact ⟨e, Fin.ext hw⟩

end Cert.Proof

end
-- ==== Proof.KernelLayout.lean ====
/- The remaining host operations of the kernel program, read: the edge lists, the filled-up input, the biases, the two
   halves of the convolution's weights and the results cut out of the last tables. -/
module

public import proofs.«01_k».proof.Proof.KernelMessages
public import proofs.«01_k».proof.Proof.EdgeList

@[expose] public section

noncomputable section

namespace Cert.Proof.KernelEdge

open Cert.KernelIdeal Cert.KernelIdeal.Gen Idealize.ShloMosaic Idealize.ShloMosaic.ValueIdx

/-- Row `r` of the edge table and the self loops. -/
abbrev list (r : Fin 2) (hs : S2x320000.Slices ![r.val, 0] S1x320000) (x : IVec S2x320000 32) : IVec S330000 32 :=
  edgeList r hs shapeCasts_S1x320000_S320000 concatenates_S320000_S10000_S330000_d0 x

/-- A vector set up as a row. -/
def asRow (b : FVec Ideal S128 .f32) : FVec Ideal S1x128 .f32 := shapeCast S1x128 b shapeCasts_S128_S1x128

/-- Half `h` of the convolution's weights, as a table from channel to output. -/
def half (h : Fin 2) (hs : S128x2x128x1.Slices ![0, h.val, 0, 0] S128x1x128x1) (w : FVec Ideal S128x2x128x1 .f32) :
    FVec Ideal S128x128 .f32 :=
  transpose S128x128 [1, 0]
    (shapeCast S128x128 (extractStridedSlice S128x1x128x1 ![0, h.val, 0, 0] w hs) shapeCasts_S128x1x128x1_S128x128)
    transposes_S128x128_S128x128_1_0

/-- A bias set up as a row, read at a channel. -/
theorem asRow_apply (b : FVec Ideal S128 .f32) (f : Fin 128) : asRow b (ix2 (0 : Fin 1) f) = b (ix1 f) := by
  refine shapeCast_apply _ _ _ _ ?_
  rw [Shape.rowMajor_val_two, Shape.rowMajor_val_one]
  show f.val = 0 * 128 + f.val
  omega

/-- One layer's half of the convolution's weights, read at an entry. -/
theorem half_apply (h : Fin 2) (hs : S128x2x128x1.Slices ![0, h.val, 0, 0] S128x1x128x1) (w : FVec Ideal S128x2x128x1 .f32)
    (j k : Fin 128) : half h hs w (ix2 j k) = w (ix4 k h j (0 : Fin 1)) := by
  unfold half
  rw [transpose_apply [1, 0] _ transposes_S128x128_S128x128_1_0 (ix2 j k) (ix2 k j)
    (fun b => by match b with | ⟨0, _⟩ => rfl | ⟨1, _⟩ => rfl)]
  rw [shapeCast_apply _ _ _ (ix4 k (0 : Fin 1) j (0 : Fin 1)) (by
    rw [Shape.rowMajor_val_two, Shape.rowMajor_val_four]
    show ((k.val * 1 + 0) * 128 + j.val) * 1 + 0 = k.val * 128 + j.val
    omega)]
  refine extractStridedSlice_apply _ _ _ _ _ fun a => ?_
  match a with
  | ⟨0, _⟩ => show k.val = 0 + k.val; omega
  | ⟨1, _⟩ => rfl
  | ⟨2, _⟩ => show j.val = 0 + j.val; omega
  | ⟨3, _⟩ => rfl

variable (V : Valuation τ sig (Elt Ideal))

/-- The edges' sources. -/
theorem sources : StableHlo.after hostOps0 V (Proc.devRef .tc main_v3) = list 0 slices_S2x320000_S1x320000_0_0 (V (Proc.devRef .tc main_arg1)) := by
  after_results_simp
  rfl

/-- The edges' destinations. -/
theorem destinations : StableHlo.after hostOps0 V (Proc.devRef .tc main_v7) = list 1 slices_S2x320000_S1x320000_1_0 (V (Proc.devRef .tc main_arg1)) := by
  after_results_simp
  rfl

/-- The input's filler. -/
theorem filler_0 : StableHlo.after hostOps0 V (Proc.devRef .tc main_c) = constantI S_ 32 0#32 := by
  after_results_simp

/-- The input with filler rows. -/
theorem padded_0 : StableHlo.after hostOps0_1 V (Proc.devRef .tc main_v8) = padded (V (Proc.devRef .tc main_c)) (V (Proc.devRef .tc main_arg0)) := by
  after_results_simp
  rfl

/-- Layer 1's bias. -/
theorem bias_1 : StableHlo.after hostOps3_4 V (Proc.devRef .tc main_v62) = asRow (V (Proc.devRef .tc main_arg5)) := by
  after_results_simp
  rfl

/-- Layer 2's bias. -/
theorem bias_2 : StableHlo.after hostOps4_4 V (Proc.devRef .tc main_v120) = asRow (V (Proc.devRef .tc main_arg9)) := by
  after_results_simp
  rfl

/-- The convolution's bias. -/
theorem bias_3 : StableHlo.after hostOps4_4 V (Proc.devRef .tc main_v121) = asRow (V (Proc.devRef .tc main_arg11)) := by
  after_results_simp
  rfl

/-- The convolution's weights for layer 1's output. -/
theorem half_0 : StableHlo.after hostOps4_4 V (Proc.devRef .tc main_v116) = half 0 slices_S128x2x128x1_S128x1x128x1_0_0_0_0 (V (Proc.devRef .tc main_arg10)) := by
  after_results_simp
  rfl

/-- The convolution's weights for layer 2's output. -/
theorem half_1 : StableHlo.after hostOps4_4 V (Proc.devRef .tc main_v119) = half 1 slices_S128x2x128x1_S128x1x128x1_0_1_0_0 (V (Proc.devRef .tc main_arg10)) := by
  after_results_simp
  rfl

/-- A cut out of a table. -/
theorem rows_a : StableHlo.after hostOps5 V (Proc.devRef .tc main_v123) = extractStridedSlice (s := S10240x128) S512x128 ![0, 0] (V (Proc.devRef .tc main_v122)) slices_S10240x128_S512x128_0_0 := by
  after_results_simp

/-- A cut out of a table. -/
theorem rows_b : StableHlo.after hostOps5 V (Proc.devRef .tc main_v124) = extractStridedSlice (s := S10240x128) S9728x128 ![504, 0] (V (Proc.devRef .tc main_v122)) slices_S10240x128_S9728x128_504_0 := by
  after_results_simp

/-- A cut out of a table. -/
theorem result_1 : StableHlo.after hostOps6 V (Proc.devRef .tc main_v126) = extractStridedSlice (s := S10240x128) S504x128 ![0, 0] (V (Proc.devRef .tc main_v122)) slices_S10240x128_S504x128_0_0 := by
  after_results_simp

/-- A cut out of a table. -/
theorem result_2 : StableHlo.after hostOps6 V (Proc.devRef .tc main_v127) = extractStridedSlice (s := S10240x128) S9496x128 ![504, 0] (V (Proc.devRef .tc main_v122)) slices_S10240x128_S9496x128_504_0 := by
  after_results_simp

/-- A cut out of a table. -/
theorem result_0 : StableHlo.after hostOps6 V (Proc.devRef .tc main_v128) = extractStridedSlice (s := S512x9728) S504x9496 ![0, 0] (V (Proc.devRef .tc main_v125)) slices_S512x9728_S504x9496_0_0 := by
  after_results_simp

end Cert.Proof.KernelEdge

end
-- ==== Proof.Prep.lean ====
/- The preparation regions' arrays after them: each attention vector carried back through the weights. -/
module

public import proofs.«01_k».proof.Proof.Bodies

@[expose] public section

noncomputable section

namespace Cert.Proof

open Cert.KernelIdeal Cert.KernelIdeal.Gen Idealize.ShloMosaic Idealize.ShloMosaic.TcCoe Idealize.ShloMosaic.ValueIdx Idealize.SL.Sem

namespace Prep

/-- The carried table as an array. -/
def carriedArr (W : FVec Ideal S128x1024 .f32) (a : FVec Ideal S8x128 .f32) : FVec Ideal S8x128 .f32 :=
  fun i => carried (tab a) (tab W) (i 0) (i 1)

/-- Row `h` of a table of eight rows, as a rectangle. -/
theorem row_inb (h : Fin 8) : ∀ a, (![h.val, 0] : Fin 2 → Nat) a + S1x128.size a ≤ S8x128.size a := fun a => by
  match a with
  | ⟨0, _⟩ => show h.val + 1 ≤ 8; omega
  | ⟨1, _⟩ => show 0 + 128 ≤ 128; omega

/-- The product stored in row `h` is row `h` of the carried table. -/
theorem stored (W : FVec Ideal S128x1024 .f32) (a : FVec Ideal S8x128 .f32) (h : Fin 8)
    (hs : S128x1024.Slices ![0, h.val * 128] S128x128) (x : S1x128.Idx) :
    FloatOps.matmul (φ₁ := .f32) (φ₂ := .f32) (DotDims.transposedRhs 1 128 128) none (View.ld (Val := Elt Ideal) (e' := .f32) a (Rect.unit (s := S8x128) ![h.val, 0] S1x128.size (row_inb h)) : FVec Ideal S1x128 .f32)
      (extractStridedSlice S128x128 ![0, h.val * 128] W hs : FVec Ideal S128x128 .f32)
      (constant S1x128 .f32 0x00000000#32) x = carriedArr W a ((Rect.unit (s := S8x128) ![h.val, 0] S1x128.size (row_inb h)).emb x) := by
  have hx0 : x 0 = (0 : Fin 1) := Subsingleton.elim (α := Fin 1) _ _
  obtain ⟨f, rfl⟩ : ∃ f : Fin 128, x = ix2 (0 : Fin 1) f :=
    ⟨x 1, (eq_ix2 x).trans (congrArg (fun z : Fin 1 => ix2 z (x 1)) hx0)⟩
  have em (f : Fin 128) : (Rect.unit (s := S8x128) ![h.val, 0] S1x128.size (row_inb h)).emb (ix2 (0 : Fin 1) f) = ix2 h f :=
    funext fun b => Fin.ext (by
      match b with
      | ⟨0, _⟩ => show h.val + 1 * 0 = h.val; omega
      | ⟨1, _⟩ => show 0 + 1 * f.val = f.val; omega)
  refine (prep_apply W _ h hs f).trans (Eq.trans ?_ (congrArg (carriedArr W a) (em f)).symm)
  show _ = ∑ j : Fin 128, a (ix2 h j) * W (ix2 f (col h j))
  exact Finset.sum_congr rfl fun j _ => congrArg (fun z : EReal => z * W (ix2 f (col h j))) (congrArg a (em j))

/-- The first preparation's first output is the carried source vectors. -/
theorem out0_3_eq (x0 : FVec Ideal S128x1024 .f32) (x1 x2 : FVec Ideal S8x128 .f32) : out0_3 (F := Ideal) x0 x1 x2 = carriedArr x0 x1 := by
  funext y
  unfold out0_3 k0_pay25
  rw [View.ld_unit_zero zero2]
  refine View.canon_apply_of_pieces (Val := Elt Ideal) (e := .f32) (carriedArr x0 x1) _ (fun p hp z => ?_) y (cover0_3 _ _ _ _ _ _ _ _ y)
  simp only [List.mem_cons, List.not_mem_nil, or_false] at hp
  rcases hp with rfl | rfl | rfl | rfl | rfl | rfl | rfl | rfl
  · exact stored x0 x1 7 slices_S128x1024_o0_896_S128x128 z
  · exact stored x0 x1 6 slices_S128x1024_o0_768_S128x128 z
  · exact stored x0 x1 5 slices_S128x1024_o0_640_S128x128 z
  · exact stored x0 x1 4 slices_S128x1024_o0_512_S128x128 z
  · exact stored x0 x1 3 slices_S128x1024_o0_384_S128x128 z
  · exact stored x0 x1 2 slices_S128x1024_o0_256_S128x128 z
  · exact stored x0 x1 1 slices_S128x1024_o0_128_S128x128 z
  · exact stored x0 x1 0 slices_S128x1024_o0_0_S128x128 z

/-- The first preparation's second output is the carried destination vectors. -/
theorem out0_4_eq (x0 : FVec Ideal S128x1024 .f32) (x1 x2 : FVec Ideal S8x128 .f32) : out0_4 (F := Ideal) x0 x1 x2 = carriedArr x0 x2 := by
  funext y
  unfold out0_4 k0_pay25
  rw [View.ld_unit_zero zero2]
  refine View.canon_apply_of_pieces (Val := Elt Ideal) (e := .f32) (carriedArr x0 x2) _ (fun p hp z => ?_) y (cover0_4 _ _ _ _ _ _ _ _ y)
  simp only [List.mem_cons, List.not_mem_nil, or_false] at hp
  rcases hp with rfl | rfl | rfl | rfl | rfl | rfl | rfl | rfl
  · exact stored x0 x2 7 slices_S128x1024_o0_896_S128x128 z
  · exact stored x0 x2 6 slices_S128x1024_o0_768_S128x128 z
  · exact stored x0 x2 5 slices_S128x1024_o0_640_S128x128 z
  · exact stored x0 x2 4 slices_S128x1024_o0_512_S128x128 z
  · exact stored x0 x2 3 slices_S128x1024_o0_384_S128x128 z
  · exact stored x0 x2 2 slices_S128x1024_o0_256_S128x128 z
  · exact stored x0 x2 1 slices_S128x1024_o0_128_S128x128 z
  · exact stored x0 x2 0 slices_S128x1024_o0_0_S128x128 z

/-- The second preparation's first output is the carried source vectors. -/
theorem out1_3_eq (x0 : FVec Ideal S128x1024 .f32) (x1 x2 : FVec Ideal S8x128 .f32) : out1_3 (F := Ideal) x0 x1 x2 = carriedArr x0 x1 :=
  Eq.trans (by rfl) (out0_3_eq x0 x1 x2)

/-- The second preparation's second output is the carried destination vectors. -/
theorem out1_4_eq (x0 : FVec Ideal S128x1024 .f32) (x1 x2 : FVec Ideal S8x128 .f32) : out1_4 (F := Ideal) x0 x1 x2 = carriedArr x0 x2 :=
  Eq.trans (by rfl) (out0_4_eq x0 x1 x2)

variable (V : (c : Dev nD) → (b : Ref sig .tc) → Buf (Elt Ideal) ((c : Thread nD τ).loc b)) (c : Dev nD)

/-! ## The arrays of region 0: every block is a whole array -/

/-- Which block window 0 is on at a point of the grid. -/
theorem index0_0 : ∀ t : Fin cfg0.N, win0_0.index t (0 : Fin 2) = 0 ∧ win0_0.index t (1 : Fin 2) = 0 :=
  (by decide +kernel : ∀ t : Fin grid0.N, _)

/-- Window 0's block is the whole array. -/
theorem emb0_0 (t : Fin cfg0.N) (j : S128x1024.Idx) : ((cfg0.win 0).blk t).view.emb j = j := by
  obtain ⟨e0, e1⟩ := index0_0 t
  refine funext fun a => Fin.ext ?_
  match a with
  | ⟨0, _⟩ => show win0_0.index t (0 : Fin 2) * 128 + 1 * (j 0).val = (j 0).val; omega
  | ⟨1, _⟩ => show win0_0.index t (1 : Fin 2) * 1024 + 1 * (j 1).val = (j 1).val; omega

/-- Window 0's block at a point of the grid, read from the array it windows. -/
theorem block0_0 (t : Fin cfg0.N) : iblk0 V c 0 t = V c main_arg2 :=
  funext fun j => congrArg (V c main_arg2) (emb0_0 t j)

/-- Which block window 1 is on at a point of the grid. -/
theorem index0_1 : ∀ t : Fin cfg0.N, win0_1.index t (0 : Fin 2) = 0 ∧ win0_1.index t (1 : Fin 2) = 0 :=
  (by decide +kernel : ∀ t : Fin grid0.N, _)

/-- Window 1's block is the whole array. -/
theorem emb0_1 (t : Fin cfg0.N) (j : S8x128.Idx) : ((cfg0.win 1).blk t).view.emb j = j := by
  obtain ⟨e0, e1⟩ := index0_1 t
  refine funext fun a => Fin.ext ?_
  match a with
  | ⟨0, _⟩ => show win0_1.index t (0 : Fin 2) * 8 + 1 * (j 0).val = (j 0).val; omega
  | ⟨1, _⟩ => show win0_1.index t (1 : Fin 2) * 128 + 1 * (j 1).val = (j 1).val; omega

/-- Window 1's block at a point of the grid, read from the array it windows. -/
theorem block0_1 (t : Fin cfg0.N) : iblk0 V c 1 t = V c main_arg3 :=
  funext fun j => congrArg (V c main_arg3) (emb0_1 t j)

/-- Which block window 2 is on at a point of the grid. -/
theorem index0_2 : ∀ t : Fin cfg0.N, win0_2.index t (0 : Fin 2) = 0 ∧ win0_2.index t (1 : Fin 2) = 0 :=
  (by decide +kernel : ∀ t : Fin grid0.N, _)

/-- Window 2's block is the whole array. -/
theorem emb0_2 (t : Fin cfg0.N) (j : S8x128.Idx) : ((cfg0.win 2).blk t).view.emb j = j := by
  obtain ⟨e0, e1⟩ := index0_2 t
  refine funext fun a => Fin.ext ?_
  match a with
  | ⟨0, _⟩ => show win0_2.index t (0 : Fin 2) * 8 + 1 * (j 0).val = (j 0).val; omega
  | ⟨1, _⟩ => show win0_2.index t (1 : Fin 2) * 128 + 1 * (j 1).val = (j 1).val; omega

/-- Window 2's block at a point of the grid, read from the array it windows. -/
theorem block0_2 (t : Fin cfg0.N) : iblk0 V c 2 t = V c main_arg4 :=
  funext fun j => congrArg (V c main_arg4) (emb0_2 t j)

/-- Which block window 3 is on at a point of the grid. -/
theorem index0_3 : ∀ t : Fin cfg0.N, win0_3.index t (0 : Fin 2) = 0 ∧ win0_3.index t (1 : Fin 2) = 0 :=
  (by decide +kernel : ∀ t : Fin grid0.N, _)

/-- Window 3's block is the whole array. -/
theorem emb0_3 (t : Fin cfg0.N) (j : S8x128.Idx) : ((cfg0.win 3).blk t).view.emb j = j := by
  obtain ⟨e0, e1⟩ := index0_3 t
  refine funext fun a => Fin.ext ?_
  match a with
  | ⟨0, _⟩ => show win0_3.index t (0 : Fin 2) * 8 + 1 * (j 0).val = (j 0).val; omega
  | ⟨1, _⟩ => show win0_3.index t (1 : Fin 2) * 128 + 1 * (j 1).val = (j 1).val; omega

/-- Which block window 4 is on at a point of the grid. -/
theorem index0_4 : ∀ t : Fin cfg0.N, win0_4.index t (0 : Fin 2) = 0 ∧ win0_4.index t (1 : Fin 2) = 0 :=
  (by decide +kernel : ∀ t : Fin grid0.N, _)

/-- Window 4's block is the whole array. -/
theorem emb0_4 (t : Fin cfg0.N) (j : S8x128.Idx) : ((cfg0.win 4).blk t).view.emb j = j := by
  obtain ⟨e0, e1⟩ := index0_4 t
  refine funext fun a => Fin.ext ?_
  match a with
  | ⟨0, _⟩ => show win0_4.index t (0 : Fin 2) * 8 + 1 * (j 0).val = (j 0).val; omega
  | ⟨1, _⟩ => show win0_4.index t (1 : Fin 2) * 128 + 1 * (j 1).val = (j 1).val; omega

/-- Window 3's array after the launch. -/
theorem final0_3 : (dat0 V c).arrAt 3 cfg0.N = carriedArr (V c main_arg2) (V c main_arg3) := by
  refine (dat0 V c).arrAt_eq_of_cover 3 (carriedArr (V c main_arg2) (V c main_arg3)) (fun t _ => ?_) (fun i => ?_)
  · unfold Pipeline.Dat.flushed
    rw [after0_3, out0_3_eq, block0_0, block0_1]
    funext j
    exact (congrArg (carriedArr (V c main_arg2) (V c main_arg3)) (emb0_3 t j)).symm
  · let t : Fin cfg0.N := ⟨0, by decide⟩
    exact ⟨t, flush0_3 t, emb0_3 t i ▸ ((cfg0.win 3).blk t).view.emb_mem_set _⟩

/-- Window 4's array after the launch. -/
theorem final0_4 : (dat0 V c).arrAt 4 cfg0.N = carriedArr (V c main_arg2) (V c main_arg4) := by
  refine (dat0 V c).arrAt_eq_of_cover 4 (carriedArr (V c main_arg2) (V c main_arg4)) (fun t _ => ?_) (fun i => ?_)
  · unfold Pipeline.Dat.flushed
    rw [after0_4, out0_4_eq, block0_0, block0_2]
    funext j
    exact (congrArg (carriedArr (V c main_arg2) (V c main_arg4)) (emb0_4 t j)).symm
  · let t : Fin cfg0.N := ⟨0, by decide⟩
    exact ⟨t, flush0_4 t, emb0_4 t i ▸ ((cfg0.win 4).blk t).view.emb_mem_set _⟩

/-! ## The arrays of region 1: every block is a whole array -/

/-- Which block window 0 is on at a point of the grid. -/
theorem index1_0 : ∀ t : Fin cfg1.N, win1_0.index t (0 : Fin 2) = 0 ∧ win1_0.index t (1 : Fin 2) = 0 :=
  (by decide +kernel : ∀ t : Fin grid1.N, _)

/-- Window 0's block is the whole array. -/
theorem emb1_0 (t : Fin cfg1.N) (j : S128x1024.Idx) : ((cfg1.win 0).blk t).view.emb j = j := by
  obtain ⟨e0, e1⟩ := index1_0 t
  refine funext fun a => Fin.ext ?_
  match a with
  | ⟨0, _⟩ => show win1_0.index t (0 : Fin 2) * 128 + 1 * (j 0).val = (j 0).val; omega
  | ⟨1, _⟩ => show win1_0.index t (1 : Fin 2) * 1024 + 1 * (j 1).val = (j 1).val; omega

/-- Window 0's block at a point of the grid, read from the array it windows. -/
theorem block1_0 (t : Fin cfg1.N) : iblk1 V c 0 t = V c main_arg6 :=
  funext fun j => congrArg (V c main_arg6) (emb1_0 t j)

/-- Which block window 1 is on at a point of the grid. -/
theorem index1_1 : ∀ t : Fin cfg1.N, win1_1.index t (0 : Fin 2) = 0 ∧ win1_1.index t (1 : Fin 2) = 0 :=
  (by decide +kernel : ∀ t : Fin grid1.N, _)

/-- Window 1's block is the whole array. -/
theorem emb1_1 (t : Fin cfg1.N) (j : S8x128.Idx) : ((cfg1.win 1).blk t).view.emb j = j := by
  obtain ⟨e0, e1⟩ := index1_1 t
  refine funext fun a => Fin.ext ?_
  match a with
  | ⟨0, _⟩ => show win1_1.index t (0 : Fin 2) * 8 + 1 * (j 0).val = (j 0).val; omega
  | ⟨1, _⟩ => show win1_1.index t (1 : Fin 2) * 128 + 1 * (j 1).val = (j 1).val; omega

/-- Window 1's block at a point of the grid, read from the array it windows. -/
theorem block1_1 (t : Fin cfg1.N) : iblk1 V c 1 t = V c main_arg7 :=
  funext fun j => congrArg (V c main_arg7) (emb1_1 t j)

/-- Which block window 2 is on at a point of the grid. -/
theorem index1_2 : ∀ t : Fin cfg1.N, win1_2.index t (0 : Fin 2) = 0 ∧ win1_2.index t (1 : Fin 2) = 0 :=
  (by decide +kernel : ∀ t : Fin grid1.N, _)

/-- Window 2's block is the whole array. -/
theorem emb1_2 (t : Fin cfg1.N) (j : S8x128.Idx) : ((cfg1.win 2).blk t).view.emb j = j := by
  obtain ⟨e0, e1⟩ := index1_2 t
  refine funext fun a => Fin.ext ?_
  match a with
  | ⟨0, _⟩ => show win1_2.index t (0 : Fin 2) * 8 + 1 * (j 0).val = (j 0).val; omega
  | ⟨1, _⟩ => show win1_2.index t (1 : Fin 2) * 128 + 1 * (j 1).val = (j 1).val; omega

/-- Window 2's block at a point of the grid, read from the array it windows. -/
theorem block1_2 (t : Fin cfg1.N) : iblk1 V c 2 t = V c main_arg8 :=
  funext fun j => congrArg (V c main_arg8) (emb1_2 t j)

/-- Which block window 3 is on at a point of the grid. -/
theorem index1_3 : ∀ t : Fin cfg1.N, win1_3.index t (0 : Fin 2) = 0 ∧ win1_3.index t (1 : Fin 2) = 0 :=
  (by decide +kernel : ∀ t : Fin grid1.N, _)

/-- Window 3's block is the whole array. -/
theorem emb1_3 (t : Fin cfg1.N) (j : S8x128.Idx) : ((cfg1.win 3).blk t).view.emb j = j := by
  obtain ⟨e0, e1⟩ := index1_3 t
  refine funext fun a => Fin.ext ?_
  match a with
  | ⟨0, _⟩ => show win1_3.index t (0 : Fin 2) * 8 + 1 * (j 0).val = (j 0).val; omega
  | ⟨1, _⟩ => show win1_3.index t (1 : Fin 2) * 128 + 1 * (j 1).val = (j 1).val; omega

/-- Which block window 4 is on at a point of the grid. -/
theorem index1_4 : ∀ t : Fin cfg1.N, win1_4.index t (0 : Fin 2) = 0 ∧ win1_4.index t (1 : Fin 2) = 0 :=
  (by decide +kernel : ∀ t : Fin grid1.N, _)

/-- Window 4's block is the whole array. -/
theorem emb1_4 (t : Fin cfg1.N) (j : S8x128.Idx) : ((cfg1.win 4).blk t).view.emb j = j := by
  obtain ⟨e0, e1⟩ := index1_4 t
  refine funext fun a => Fin.ext ?_
  match a with
  | ⟨0, _⟩ => show win1_4.index t (0 : Fin 2) * 8 + 1 * (j 0).val = (j 0).val; omega
  | ⟨1, _⟩ => show win1_4.index t (1 : Fin 2) * 128 + 1 * (j 1).val = (j 1).val; omega

/-- Window 3's array after the launch. -/
theorem final1_3 : (dat1 V c).arrAt 3 cfg1.N = carriedArr (V c main_arg6) (V c main_arg7) := by
  refine (dat1 V c).arrAt_eq_of_cover 3 (carriedArr (V c main_arg6) (V c main_arg7)) (fun t _ => ?_) (fun i => ?_)
  · unfold Pipeline.Dat.flushed
    rw [after1_3, out1_3_eq, block1_0, block1_1]
    funext j
    exact (congrArg (carriedArr (V c main_arg6) (V c main_arg7)) (emb1_3 t j)).symm
  · let t : Fin cfg1.N := ⟨0, by decide⟩
    exact ⟨t, flush1_3 t, emb1_3 t i ▸ ((cfg1.win 3).blk t).view.emb_mem_set _⟩

/-- Window 4's array after the launch. -/
theorem final1_4 : (dat1 V c).arrAt 4 cfg1.N = carriedArr (V c main_arg6) (V c main_arg8) := by
  refine (dat1 V c).arrAt_eq_of_cover 4 (carriedArr (V c main_arg6) (V c main_arg8)) (fun t _ => ?_) (fun i => ?_)
  · unfold Pipeline.Dat.flushed
    rw [after1_4, out1_4_eq, block1_0, block1_2]
    funext j
    exact (congrArg (carriedArr (V c main_arg6) (V c main_arg8)) (emb1_4 t j)).symm
  · let t : Fin cfg1.N := ⟨0, by decide⟩
    exact ⟨t, flush1_4 t, emb1_4 t i ▸ ((cfg1.win 4).blk t).view.emb_mem_set _⟩

end Prep

end Cert.Proof

end
-- ==== Proof.Embed1.lean ====
/- The first embedding's arrays after its region, as functions of the arrays it finds. -/
module

public import proofs.«01_k».proof.Proof.Bodies

@[expose] public section

noncomputable section

namespace Cert.Proof

open Cert.KernelIdeal Cert.KernelIdeal.Gen Idealize.ShloMosaic Idealize.ShloMosaic.TcCoe Idealize.ShloMosaic.ValueIdx Idealize.SL.Sem

namespace Embed1

variable (V : (c : Dev nD) → (b : Ref sig .tc) → Buf (Elt Ideal) ((c : Thread nD τ).loc b)) (c : Dev nD)

/-! The arrays the region finds, and where each grid point's blocks lie in them. -/

/-- The padded features on entry. -/
abbrev xIn : FVec Ideal S10240x128 .f32 := V c main_v8
/-- The weights on entry. -/
abbrev wIn : FVec Ideal S128x1024 .f32 := V c main_arg2
/-- The carried source vectors on entry. -/
abbrev sIn : FVec Ideal S8x128 .f32 := V c main_v9_0
/-- The carried destination vectors on entry. -/
abbrev dIn : FVec Ideal S8x128 .f32 := V c main_v9_1
/-- Row `r` of grid point `t`'s block of 256. -/
def row (t : Fin cfg2.N) (r : Fin 256) : Fin 10240 := ⟨t.val * 256 + r.val, by
  have h : t.val < 40 := lt_of_lt_of_eq t.isLt N_2
  omega⟩

/-- Which block window 0 is on at a point of the grid. -/
theorem index0 : ∀ t : Fin cfg2.N, win2_0.index t (0 : Fin 2) = t.val ∧ win2_0.index t (1 : Fin 2) = 0 :=
  (by decide +kernel : ∀ t : Fin grid2.N, _)

/-- Window 0's block at a point of the grid, read from the array it windows. -/
theorem block0 (t : Fin cfg2.N) (r : Fin 256) (q : Fin 128) : iblk2 V c 0 t (ix2 r q) = xIn V c (ix2 (row t r) q) := by
  obtain ⟨e0, e1⟩ := index0 t
  refine congrArg (xIn V c) (funext fun a => Fin.ext ?_)
  match a with
  | ⟨0, _⟩ => show win2_0.index t (0 : Fin 2) * 256 + 1 * r.val = t.val * 256 + r.val; omega
  | ⟨1, _⟩ => show win2_0.index t (1 : Fin 2) * 128 + 1 * q.val = q.val; omega

/-- Which block window 1 is on at a point of the grid. -/
theorem index1 : ∀ t : Fin cfg2.N, win2_1.index t (0 : Fin 2) = 0 ∧ win2_1.index t (1 : Fin 2) = 0 :=
  (by decide +kernel : ∀ t : Fin grid2.N, _)

/-- Window 1's block at a point of the grid, read from the array it windows. -/
theorem block1 (t : Fin cfg2.N) : iblk2 V c 1 t = wIn V c := by
  obtain ⟨e0, e1⟩ := index1 t
  funext j
  refine congrArg (wIn V c) (funext fun a => Fin.ext ?_)
  match a with
  | ⟨0, _⟩ => show win2_1.index t (0 : Fin 2) * 128 + 1 * (j 0).val = (j 0).val; omega
  | ⟨1, _⟩ => show win2_1.index t (1 : Fin 2) * 1024 + 1 * (j 1).val = (j 1).val; omega

/-- Which block window 2 is on at a point of the grid. -/
theorem index2 : ∀ t : Fin cfg2.N, win2_2.index t (0 : Fin 2) = 0 ∧ win2_2.index t (1 : Fin 2) = 0 :=
  (by decide +kernel : ∀ t : Fin grid2.N, _)

/-- Window 2's block at a point of the grid, read from the array it windows. -/
theorem block2 (t : Fin cfg2.N) : iblk2 V c 2 t = sIn V c := by
  obtain ⟨e0, e1⟩ := index2 t
  funext j
  refine congrArg (sIn V c) (funext fun a => Fin.ext ?_)
  match a with
  | ⟨0, _⟩ => show win2_2.index t (0 : Fin 2) * 8 + 1 * (j 0).val = (j 0).val; omega
  | ⟨1, _⟩ => show win2_2.index t (1 : Fin 2) * 128 + 1 * (j 1).val = (j 1).val; omega

/-- Which block window 3 is on at a point of the grid. -/
theorem index3 : ∀ t : Fin cfg2.N, win2_3.index t (0 : Fin 2) = 0 ∧ win2_3.index t (1 : Fin 2) = 0 :=
  (by decide +kernel : ∀ t : Fin grid2.N, _)

/-- Window 3's block at a point of the grid, read from the array it windows. -/
theorem block3 (t : Fin cfg2.N) : iblk2 V c 3 t = dIn V c := by
  obtain ⟨e0, e1⟩ := index3 t
  funext j
  refine congrArg (dIn V c) (funext fun a => Fin.ext ?_)
  match a with
  | ⟨0, _⟩ => show win2_3.index t (0 : Fin 2) * 8 + 1 * (j 0).val = (j 0).val; omega
  | ⟨1, _⟩ => show win2_3.index t (1 : Fin 2) * 128 + 1 * (j 1).val = (j 1).val; omega

/-- The projected features. -/
def featOut : FVec Ideal S10240x1024 .f32 := fun i => feat (tab (xIn V c)) (tab (wIn V c)) (i 0) (i 1)

/-- A carried table times the features, transposed. -/
def termOut (A : FVec Ideal S8x128 .f32) : FVec Ideal S8x10240 .f32 := fun i => ∑ f : Fin 128, A (ix2 (i 0) f) * xIn V c (ix2 (i 1) f)

/-- Which block window 4 is on at a point of the grid. -/
theorem index4 : ∀ t : Fin cfg2.N, win2_4.index t (0 : Fin 2) = t.val ∧ win2_4.index t (1 : Fin 2) = 0 :=
  (by decide +kernel : ∀ t : Fin grid2.N, _)

/-- What window 4 writes back at a point is that block of the whole output. -/
theorem flushed4 (t : Fin cfg2.N) : (dat2 V c).flushed 4 t = ((cfg2.win 4).blk t).view.read (Elt Ideal) (featOut V c) := by
  unfold Pipeline.Dat.flushed
  rw [after2_4, out2_4, View.canon_unit_zero zero2, View.ld_unit_zero zero2, View.ld_unit_zero zero2, block1]
  obtain ⟨e0, e1⟩ := index4 t
  funext j
  obtain ⟨r, k, rfl⟩ : ∃ (r : Fin 256) (k : Fin 1024), j = ix2 r k := ⟨j 0, j 1, eq_ix2 _⟩
  refine (embed1_feat _ _ r k).trans ?_
  show _ = (featOut V c) (((cfg2.win 4).blk t).view.emb (ix2 r k))
  have e : ((cfg2.win 4).blk t).view.emb (ix2 r k) = ix2 (row t r) k := funext fun a => Fin.ext (by
    match a with
    | ⟨0, _⟩ => show win2_4.index t (0 : Fin 2) * 256 + 1 * r.val = t.val * 256 + r.val; omega
    | ⟨1, _⟩ => show win2_4.index t (1 : Fin 2) * 1024 + 1 * k.val = k.val; omega)
  rw [e]
  exact Finset.sum_congr rfl fun f _ => congrArg (fun z : EReal => z * wIn V c (ix2 f k)) (block0 V c t r f)

/-- Every entry of window 4's output is written back at some point. -/
theorem cover4 (i : S10240x1024.Idx) : ∃ t : Fin cfg2.N, (cfg2.win 4).flush t = true ∧ i ∈ ((cfg2.win 4).blk t).view.set := by
  have h : (i 0).val < 10240 := (i 0).isLt
  let t : Fin cfg2.N := ⟨(i 0).val / 256, lt_of_lt_of_eq (show (i 0).val / 256 < 40 by omega) N_2.symm⟩
  obtain ⟨e0, e1⟩ := index4 t
  have e : ((cfg2.win 4).blk t).view.emb (ix2 (⟨(i 0).val % 256, by omega⟩ : Fin 256) (i 1 : Fin 1024)) = i := funext fun a => Fin.ext (by
    match a with
    | ⟨0, _⟩ => show win2_4.index t (0 : Fin 2) * 256 + 1 * ((i 0).val % 256) = (i 0).val; rw [e0]; show (i 0).val / 256 * 256 + _ = _; omega
    | ⟨1, _⟩ => show win2_4.index t (1 : Fin 2) * 1024 + 1 * (i 1).val = (i 1).val; omega)
  exact ⟨t, flush2_4 t, e ▸ ((cfg2.win 4).blk t).view.emb_mem_set _⟩

/-- Window 4's array after the launch. -/
theorem final4 : (dat2 V c).arrAt 4 cfg2.N = featOut V c :=
  (dat2 V c).arrAt_eq_of_cover 4 (featOut V c) (fun t _ => flushed4 V c t) cover4

/-- Which block window 5 is on at a point of the grid. -/
theorem index5 : ∀ t : Fin cfg2.N, win2_5.index t (0 : Fin 2) = 0 ∧ win2_5.index t (1 : Fin 2) = t.val :=
  (by decide +kernel : ∀ t : Fin grid2.N, _)

/-- What window 5 writes back at a point is that block of the whole output. -/
theorem flushed5 (t : Fin cfg2.N) : (dat2 V c).flushed 5 t = ((cfg2.win 5).blk t).view.read (Elt Ideal) (termOut V c (sIn V c)) := by
  unfold Pipeline.Dat.flushed
  rw [after2_5, out2_5, View.canon_unit_zero zero2, View.ld_unit_zero zero2, View.ld_unit_zero zero2, block2]
  obtain ⟨e0, e1⟩ := index5 t
  funext j
  obtain ⟨k, r, rfl⟩ : ∃ (k : Fin 8) (r : Fin 256), j = ix2 k r := ⟨j 0, j 1, eq_ix2 _⟩
  refine (embed1_term4 _ _ k r).trans ?_
  show _ = (termOut V c (sIn V c)) (((cfg2.win 5).blk t).view.emb (ix2 k r))
  have e : ((cfg2.win 5).blk t).view.emb (ix2 k r) = ix2 k (row t r) := funext fun a => Fin.ext (by
    match a with
    | ⟨0, _⟩ => show win2_5.index t (0 : Fin 2) * 8 + 1 * k.val = k.val; omega
    | ⟨1, _⟩ => show win2_5.index t (1 : Fin 2) * 256 + 1 * r.val = t.val * 256 + r.val; omega)
  rw [e]
  exact Finset.sum_congr rfl fun f _ => congrArg (fun z : EReal => sIn V c (ix2 k f) * z) (block0 V c t r f)

/-- Every entry of window 5's output is written back at some point. -/
theorem cover5 (i : S8x10240.Idx) : ∃ t : Fin cfg2.N, (cfg2.win 5).flush t = true ∧ i ∈ ((cfg2.win 5).blk t).view.set := by
  have h : (i 1).val < 10240 := (i 1).isLt
  let t : Fin cfg2.N := ⟨(i 1).val / 256, lt_of_lt_of_eq (show (i 1).val / 256 < 40 by omega) N_2.symm⟩
  obtain ⟨e0, e1⟩ := index5 t
  have e : ((cfg2.win 5).blk t).view.emb (ix2 (i 0 : Fin 8) (⟨(i 1).val % 256, by omega⟩ : Fin 256)) = i := funext fun a => Fin.ext (by
    match a with
    | ⟨0, _⟩ => show win2_5.index t (0 : Fin 2) * 8 + 1 * (i 0).val = (i 0).val; omega
    | ⟨1, _⟩ => show win2_5.index t (1 : Fin 2) * 256 + 1 * ((i 1).val % 256) = (i 1).val; rw [e1]; show (i 1).val / 256 * 256 + _ = _; omega)
  exact ⟨t, flush2_5 t, e ▸ ((cfg2.win 5).blk t).view.emb_mem_set _⟩

/-- Window 5's array after the launch. -/
theorem final5 : (dat2 V c).arrAt 5 cfg2.N = termOut V c (sIn V c) :=
  (dat2 V c).arrAt_eq_of_cover 5 (termOut V c (sIn V c)) (fun t _ => flushed5 V c t) cover5

/-- Which block window 6 is on at a point of the grid. -/
theorem index6 : ∀ t : Fin cfg2.N, win2_6.index t (0 : Fin 2) = 0 ∧ win2_6.index t (1 : Fin 2) = t.val :=
  (by decide +kernel : ∀ t : Fin grid2.N, _)

/-- What window 6 writes back at a point is that block of the whole output. -/
theorem flushed6 (t : Fin cfg2.N) : (dat2 V c).flushed 6 t = ((cfg2.win 6).blk t).view.read (Elt Ideal) (termOut V c (dIn V c)) := by
  unfold Pipeline.Dat.flushed
  rw [after2_6, out2_6, View.canon_unit_zero zero2, View.ld_unit_zero zero2, View.ld_unit_zero zero2, block3, embed1_term5]
  obtain ⟨e0, e1⟩ := index6 t
  funext j
  obtain ⟨k, r, rfl⟩ : ∃ (k : Fin 8) (r : Fin 256), j = ix2 k r := ⟨j 0, j 1, eq_ix2 _⟩
  refine (embed1_term4 _ _ k r).trans ?_
  show _ = (termOut V c (dIn V c)) (((cfg2.win 6).blk t).view.emb (ix2 k r))
  have e : ((cfg2.win 6).blk t).view.emb (ix2 k r) = ix2 k (row t r) := funext fun a => Fin.ext (by
    match a with
    | ⟨0, _⟩ => show win2_6.index t (0 : Fin 2) * 8 + 1 * k.val = k.val; omega
    | ⟨1, _⟩ => show win2_6.index t (1 : Fin 2) * 256 + 1 * r.val = t.val * 256 + r.val; omega)
  rw [e]
  exact Finset.sum_congr rfl fun f _ => congrArg (fun z : EReal => dIn V c (ix2 k f) * z) (block0 V c t r f)

/-- Every entry of window 6's output is written back at some point. -/
theorem cover6 (i : S8x10240.Idx) : ∃ t : Fin cfg2.N, (cfg2.win 6).flush t = true ∧ i ∈ ((cfg2.win 6).blk t).view.set := by
  have h : (i 1).val < 10240 := (i 1).isLt
  let t : Fin cfg2.N := ⟨(i 1).val / 256, lt_of_lt_of_eq (show (i 1).val / 256 < 40 by omega) N_2.symm⟩
  obtain ⟨e0, e1⟩ := index6 t
  have e : ((cfg2.win 6).blk t).view.emb (ix2 (i 0 : Fin 8) (⟨(i 1).val % 256, by omega⟩ : Fin 256)) = i := funext fun a => Fin.ext (by
    match a with
    | ⟨0, _⟩ => show win2_6.index t (0 : Fin 2) * 8 + 1 * (i 0).val = (i 0).val; omega
    | ⟨1, _⟩ => show win2_6.index t (1 : Fin 2) * 256 + 1 * ((i 1).val % 256) = (i 1).val; rw [e1]; show (i 1).val / 256 * 256 + _ = _; omega)
  exact ⟨t, flush2_6 t, e ▸ ((cfg2.win 6).blk t).view.emb_mem_set _⟩

/-- Window 6's array after the launch. -/
theorem final6 : (dat2 V c).arrAt 6 cfg2.N = termOut V c (dIn V c) :=
  (dat2 V c).arrAt_eq_of_cover 6 (termOut V c (dIn V c)) (fun t _ => flushed6 V c t) cover6

end Embed1

end Cert.Proof

end
-- ==== Proof.Embed2.lean ====
/- The second embedding's arrays after its region, as functions of the arrays it finds. -/
module

public import proofs.«01_k».proof.Proof.Bodies

@[expose] public section

noncomputable section

namespace Cert.Proof

open Cert.KernelIdeal Cert.KernelIdeal.Gen Idealize.ShloMosaic Idealize.ShloMosaic.TcCoe Idealize.ShloMosaic.ValueIdx Idealize.SL.Sem

namespace Embed2

variable (V : (c : Dev nD) → (b : Ref sig .tc) → Buf (Elt Ideal) ((c : Thread nD τ).loc b)) (c : Dev nD)

/-! The arrays the region finds, and where each grid point's blocks lie in them. -/

/-- The first layer's message sums, in two parts, on entry. -/
abbrev pIn : FVec Ideal S2x10240x128 .f32 := V c main_v61
/-- The first layer's bias on entry. -/
abbrev bIn : FVec Ideal S1x128 .f32 := V c main_v62
/-- The second layer's weights on entry. -/
abbrev wIn : FVec Ideal S128x1024 .f32 := V c main_arg6
/-- The carried source vectors on entry. -/
abbrev sIn : FVec Ideal S8x128 .f32 := V c main_v10_0
/-- The carried destination vectors on entry. -/
abbrev dIn : FVec Ideal S8x128 .f32 := V c main_v10_1
/-- Row `r` of grid point `t`'s block of 256. -/
def row (t : Fin cfg3.N) (r : Fin 256) : Fin 10240 := ⟨t.val * 256 + r.val, by
  have h : t.val < 40 := lt_of_lt_of_eq t.isLt N_3
  omega⟩

/-- Which block window 0 is on at a point of the grid. -/
theorem index0 : ∀ t : Fin cfg3.N, win3_0.index t (0 : Fin 3) = 0 ∧ win3_0.index t (1 : Fin 3) = t.val ∧ win3_0.index t (2 : Fin 3) = 0 :=
  (by decide +kernel : ∀ t : Fin grid3.N, _)

/-- Window 0's block at a point of the grid, read from the array it windows. -/
theorem block0 (t : Fin cfg3.N) (p : Fin 2) (r : Fin 256) (s : Fin 128) : iblk3 V c 0 t (ix3 p r s) = pIn V c (ix3 p (row t r) s) := by
  obtain ⟨e0, e1, e2⟩ := index0 t
  refine congrArg (pIn V c) (funext fun a => Fin.ext ?_)
  match a with
  | ⟨0, _⟩ => show win3_0.index t (0 : Fin 3) * 2 + 1 * p.val = p.val; omega
  | ⟨1, _⟩ => show win3_0.index t (1 : Fin 3) * 256 + 1 * r.val = t.val * 256 + r.val; omega
  | ⟨2, _⟩ => show win3_0.index t (2 : Fin 3) * 128 + 1 * s.val = s.val; omega

/-- Which block window 1 is on at a point of the grid. -/
theorem index1 : ∀ t : Fin cfg3.N, win3_1.index t (0 : Fin 2) = 0 ∧ win3_1.index t (1 : Fin 2) = 0 :=
  (by decide +kernel : ∀ t : Fin grid3.N, _)

/-- Window 1's block at a point of the grid, read from the array it windows. -/
theorem block1 (t : Fin cfg3.N) : iblk3 V c 1 t = bIn V c := by
  obtain ⟨e0, e1⟩ := index1 t
  funext j
  refine congrArg (bIn V c) (funext fun a => Fin.ext ?_)
  match a with
  | ⟨0, _⟩ => show win3_1.index t (0 : Fin 2) * 1 + 1 * (j 0).val = (j 0).val; omega
  | ⟨1, _⟩ => show win3_1.index t (1 : Fin 2) * 128 + 1 * (j 1).val = (j 1).val; omega

/-- Which block window 2 is on at a point of the grid. -/
theorem index2 : ∀ t : Fin cfg3.N, win3_2.index t (0 : Fin 2) = 0 ∧ win3_2.index t (1 : Fin 2) = 0 :=
  (by decide +kernel : ∀ t : Fin grid3.N, _)

/-- Window 2's block at a point of the grid, read from the array it windows. -/
theorem block2 (t : Fin cfg3.N) : iblk3 V c 2 t = wIn V c := by
  obtain ⟨e0, e1⟩ := index2 t
  funext j
  refine congrArg (wIn V c) (funext fun a => Fin.ext ?_)
  match a with
  | ⟨0, _⟩ => show win3_2.index t (0 : Fin 2) * 128 + 1 * (j 0).val = (j 0).val; omega
  | ⟨1, _⟩ => show win3_2.index t (1 : Fin 2) * 1024 + 1 * (j 1).val = (j 1).val; omega

/-- Which block window 3 is on at a point of the grid. -/
theorem index3 : ∀ t : Fin cfg3.N, win3_3.index t (0 : Fin 2) = 0 ∧ win3_3.index t (1 : Fin 2) = 0 :=
  (by decide +kernel : ∀ t : Fin grid3.N, _)

/-- Window 3's block at a point of the grid, read from the array it windows. -/
theorem block3 (t : Fin cfg3.N) : iblk3 V c 3 t = sIn V c := by
  obtain ⟨e0, e1⟩ := index3 t
  funext j
  refine congrArg (sIn V c) (funext fun a => Fin.ext ?_)
  match a with
  | ⟨0, _⟩ => show win3_3.index t (0 : Fin 2) * 8 + 1 * (j 0).val = (j 0).val; omega
  | ⟨1, _⟩ => show win3_3.index t (1 : Fin 2) * 128 + 1 * (j 1).val = (j 1).val; omega

/-- Which block window 4 is on at a point of the grid. -/
theorem index4 : ∀ t : Fin cfg3.N, win3_4.index t (0 : Fin 2) = 0 ∧ win3_4.index t (1 : Fin 2) = 0 :=
  (by decide +kernel : ∀ t : Fin grid3.N, _)

/-- Window 4's block at a point of the grid, read from the array it windows. -/
theorem block4 (t : Fin cfg3.N) : iblk3 V c 4 t = dIn V c := by
  obtain ⟨e0, e1⟩ := index4 t
  funext j
  refine congrArg (dIn V c) (funext fun a => Fin.ext ?_)
  match a with
  | ⟨0, _⟩ => show win3_4.index t (0 : Fin 2) * 8 + 1 * (j 0).val = (j 0).val; omega
  | ⟨1, _⟩ => show win3_4.index t (1 : Fin 2) * 128 + 1 * (j 1).val = (j 1).val; omega

/-- The two parts of a grid point's block. -/
theorem part0 (t : Fin cfg3.N) (r : Fin 256) (f : Fin 128) :
    View.ld (iblk3 V c 0 t) r3_0 (ix3 (0 : Fin 1) r f) = pIn V c (ix3 (0 : Fin 2) (row t r) f) := by
  refine Eq.trans (congrArg (iblk3 V c 0 t) (funext fun a => Fin.ext ?_)) (block0 V c t (0 : Fin 2) r f)
  match a with
  | ⟨0, _⟩ => rfl
  | ⟨1, _⟩ => show 0 + 1 * r.val = r.val; omega
  | ⟨2, _⟩ => show 0 + 1 * f.val = f.val; omega

/-- The second part of the message sums, one block of it. -/
theorem part1 (t : Fin cfg3.N) (r : Fin 256) (f : Fin 128) :
    View.ld (iblk3 V c 0 t) r3_1 (ix3 (0 : Fin 1) r f) = pIn V c (ix3 (1 : Fin 2) (row t r) f) := by
  refine Eq.trans (congrArg (iblk3 V c 0 t) (funext fun a => Fin.ext ?_)) (block0 V c t (1 : Fin 2) r f)
  match a with
  | ⟨0, _⟩ => rfl
  | ⟨1, _⟩ => show 0 + 1 * r.val = r.val; omega
  | ⟨2, _⟩ => show 0 + 1 * f.val = f.val; omega

/-- The rectified layer output. -/
def layerOut : FVec Ideal S10240x128 .f32 := fun i =>
  max ((pIn V c (ix3 (0 : Fin 2) (i 0) (i 1)) + pIn V c (ix3 (1 : Fin 2) (i 0) (i 1))) * Ideal.ofBits .f32 0x3E000000#32 + bIn V c (ix2 (0 : Fin 1) (i 1))) 0

/-- The block of the layer's rows the body computes. -/
theorem layer_block (t : Fin cfg3.N) (r : Fin 256) (f : Fin 128) :
    k3_pay1 (F := Ideal) (View.ld (iblk3 V c 0 t) r3_0) (View.ld (iblk3 V c 0 t) r3_1) (bIn V c) (ix2 r f)
      = layerOut V c (ix2 (row t r) f) := by
  rw [embed2_x, part0, part1]
  rfl

/-- Its projected features. -/
def featOut : FVec Ideal S10240x1024 .f32 := fun i => feat (tab (layerOut V c)) (tab (wIn V c)) (i 0) (i 1)

/-- A carried table times the layer output, transposed. -/
def termOut (A : FVec Ideal S8x128 .f32) : FVec Ideal S8x10240 .f32 := fun i => ∑ f : Fin 128, A (ix2 (i 0) f) * layerOut V c (ix2 (i 1) f)

/-- Which block window 5 is on at a point of the grid. -/
theorem index5 : ∀ t : Fin cfg3.N, win3_5.index t (0 : Fin 2) = t.val ∧ win3_5.index t (1 : Fin 2) = 0 :=
  (by decide +kernel : ∀ t : Fin grid3.N, _)

/-- What window 5 writes back at a point is that block of the whole output. -/
theorem flushed5 (t : Fin cfg3.N) : (dat3 V c).flushed 5 t = ((cfg3.win 5).blk t).view.read (Elt Ideal) (layerOut V c) := by
  unfold Pipeline.Dat.flushed
  rw [after3_5, out3_5, View.canon_unit_zero zero2, View.ld_unit_zero zero2, block1]
  obtain ⟨e0, e1⟩ := index5 t
  funext j
  obtain ⟨r, k, rfl⟩ : ∃ (r : Fin 256) (k : Fin 128), j = ix2 r k := ⟨j 0, j 1, eq_ix2 _⟩
  refine (layer_block V c t r k).trans ?_
  show _ = (layerOut V c) (((cfg3.win 5).blk t).view.emb (ix2 r k))
  have e : ((cfg3.win 5).blk t).view.emb (ix2 r k) = ix2 (row t r) k := funext fun a => Fin.ext (by
    match a with
    | ⟨0, _⟩ => show win3_5.index t (0 : Fin 2) * 256 + 1 * r.val = t.val * 256 + r.val; omega
    | ⟨1, _⟩ => show win3_5.index t (1 : Fin 2) * 128 + 1 * k.val = k.val; omega)
  rw [e]

/-- Every entry of window 5's output is written back at some point. -/
theorem cover5 (i : S10240x128.Idx) : ∃ t : Fin cfg3.N, (cfg3.win 5).flush t = true ∧ i ∈ ((cfg3.win 5).blk t).view.set := by
  have h : (i 0).val < 10240 := (i 0).isLt
  let t : Fin cfg3.N := ⟨(i 0).val / 256, lt_of_lt_of_eq (show (i 0).val / 256 < 40 by omega) N_3.symm⟩
  obtain ⟨e0, e1⟩ := index5 t
  have e : ((cfg3.win 5).blk t).view.emb (ix2 (⟨(i 0).val % 256, by omega⟩ : Fin 256) (i 1 : Fin 128)) = i := funext fun a => Fin.ext (by
    match a with
    | ⟨0, _⟩ => show win3_5.index t (0 : Fin 2) * 256 + 1 * ((i 0).val % 256) = (i 0).val; rw [e0]; show (i 0).val / 256 * 256 + _ = _; omega
    | ⟨1, _⟩ => show win3_5.index t (1 : Fin 2) * 128 + 1 * (i 1).val = (i 1).val; omega)
  exact ⟨t, flush3_5 t, e ▸ ((cfg3.win 5).blk t).view.emb_mem_set _⟩

/-- Window 5's array after the launch. -/
theorem final5 : (dat3 V c).arrAt 5 cfg3.N = layerOut V c :=
  (dat3 V c).arrAt_eq_of_cover 5 (layerOut V c) (fun t _ => flushed5 V c t) cover5

/-- Which block window 6 is on at a point of the grid. -/
theorem index6 : ∀ t : Fin cfg3.N, win3_6.index t (0 : Fin 2) = t.val ∧ win3_6.index t (1 : Fin 2) = 0 :=
  (by decide +kernel : ∀ t : Fin grid3.N, _)

/-- What window 6 writes back at a point is that block of the whole output. -/
theorem flushed6 (t : Fin cfg3.N) : (dat3 V c).flushed 6 t = ((cfg3.win 6).blk t).view.read (Elt Ideal) (featOut V c) := by
  unfold Pipeline.Dat.flushed
  rw [after3_6, out3_6, View.canon_unit_zero zero2, View.ld_unit_zero zero2, View.ld_unit_zero zero2, block1, block2]
  obtain ⟨e0, e1⟩ := index6 t
  funext j
  obtain ⟨r, k, rfl⟩ : ∃ (r : Fin 256) (k : Fin 1024), j = ix2 r k := ⟨j 0, j 1, eq_ix2 _⟩
  refine (embed2_feat _ _ _ _ r k).trans ?_
  show _ = (featOut V c) (((cfg3.win 6).blk t).view.emb (ix2 r k))
  have e : ((cfg3.win 6).blk t).view.emb (ix2 r k) = ix2 (row t r) k := funext fun a => Fin.ext (by
    match a with
    | ⟨0, _⟩ => show win3_6.index t (0 : Fin 2) * 256 + 1 * r.val = t.val * 256 + r.val; omega
    | ⟨1, _⟩ => show win3_6.index t (1 : Fin 2) * 1024 + 1 * k.val = k.val; omega)
  rw [e]
  exact Finset.sum_congr rfl fun f _ => congrArg (fun z : EReal => z * wIn V c (ix2 f k)) (layer_block V c t r f)

/-- Every entry of window 6's output is written back at some point. -/
theorem cover6 (i : S10240x1024.Idx) : ∃ t : Fin cfg3.N, (cfg3.win 6).flush t = true ∧ i ∈ ((cfg3.win 6).blk t).view.set := by
  have h : (i 0).val < 10240 := (i 0).isLt
  let t : Fin cfg3.N := ⟨(i 0).val / 256, lt_of_lt_of_eq (show (i 0).val / 256 < 40 by omega) N_3.symm⟩
  obtain ⟨e0, e1⟩ := index6 t
  have e : ((cfg3.win 6).blk t).view.emb (ix2 (⟨(i 0).val % 256, by omega⟩ : Fin 256) (i 1 : Fin 1024)) = i := funext fun a => Fin.ext (by
    match a with
    | ⟨0, _⟩ => show win3_6.index t (0 : Fin 2) * 256 + 1 * ((i 0).val % 256) = (i 0).val; rw [e0]; show (i 0).val / 256 * 256 + _ = _; omega
    | ⟨1, _⟩ => show win3_6.index t (1 : Fin 2) * 1024 + 1 * (i 1).val = (i 1).val; omega)
  exact ⟨t, flush3_6 t, e ▸ ((cfg3.win 6).blk t).view.emb_mem_set _⟩

/-- Window 6's array after the launch. -/
theorem final6 : (dat3 V c).arrAt 6 cfg3.N = featOut V c :=
  (dat3 V c).arrAt_eq_of_cover 6 (featOut V c) (fun t _ => flushed6 V c t) cover6

/-- Which block window 7 is on at a point of the grid. -/
theorem index7 : ∀ t : Fin cfg3.N, win3_7.index t (0 : Fin 2) = 0 ∧ win3_7.index t (1 : Fin 2) = t.val :=
  (by decide +kernel : ∀ t : Fin grid3.N, _)

/-- What window 7 writes back at a point is that block of the whole output. -/
theorem flushed7 (t : Fin cfg3.N) : (dat3 V c).flushed 7 t = ((cfg3.win 7).blk t).view.read (Elt Ideal) (termOut V c (sIn V c)) := by
  unfold Pipeline.Dat.flushed
  rw [after3_7, out3_7, View.canon_unit_zero zero2, View.ld_unit_zero zero2, View.ld_unit_zero zero2, block1, block3]
  obtain ⟨e0, e1⟩ := index7 t
  funext j
  obtain ⟨k, r, rfl⟩ : ∃ (k : Fin 8) (r : Fin 256), j = ix2 k r := ⟨j 0, j 1, eq_ix2 _⟩
  refine (embed2_term4 _ _ _ _ k r).trans ?_
  show _ = (termOut V c (sIn V c)) (((cfg3.win 7).blk t).view.emb (ix2 k r))
  have e : ((cfg3.win 7).blk t).view.emb (ix2 k r) = ix2 k (row t r) := funext fun a => Fin.ext (by
    match a with
    | ⟨0, _⟩ => show win3_7.index t (0 : Fin 2) * 8 + 1 * k.val = k.val; omega
    | ⟨1, _⟩ => show win3_7.index t (1 : Fin 2) * 256 + 1 * r.val = t.val * 256 + r.val; omega)
  rw [e]
  exact Finset.sum_congr rfl fun f _ => congrArg (fun z : EReal => sIn V c (ix2 k f) * z) (layer_block V c t r f)

/-- Every entry of window 7's output is written back at some point. -/
theorem cover7 (i : S8x10240.Idx) : ∃ t : Fin cfg3.N, (cfg3.win 7).flush t = true ∧ i ∈ ((cfg3.win 7).blk t).view.set := by
  have h : (i 1).val < 10240 := (i 1).isLt
  let t : Fin cfg3.N := ⟨(i 1).val / 256, lt_of_lt_of_eq (show (i 1).val / 256 < 40 by omega) N_3.symm⟩
  obtain ⟨e0, e1⟩ := index7 t
  have e : ((cfg3.win 7).blk t).view.emb (ix2 (i 0 : Fin 8) (⟨(i 1).val % 256, by omega⟩ : Fin 256)) = i := funext fun a => Fin.ext (by
    match a with
    | ⟨0, _⟩ => show win3_7.index t (0 : Fin 2) * 8 + 1 * (i 0).val = (i 0).val; omega
    | ⟨1, _⟩ => show win3_7.index t (1 : Fin 2) * 256 + 1 * ((i 1).val % 256) = (i 1).val; rw [e1]; show (i 1).val / 256 * 256 + _ = _; omega)
  exact ⟨t, flush3_7 t, e ▸ ((cfg3.win 7).blk t).view.emb_mem_set _⟩

/-- Window 7's array after the launch. -/
theorem final7 : (dat3 V c).arrAt 7 cfg3.N = termOut V c (sIn V c) :=
  (dat3 V c).arrAt_eq_of_cover 7 (termOut V c (sIn V c)) (fun t _ => flushed7 V c t) cover7

/-- Which block window 8 is on at a point of the grid. -/
theorem index8 : ∀ t : Fin cfg3.N, win3_8.index t (0 : Fin 2) = 0 ∧ win3_8.index t (1 : Fin 2) = t.val :=
  (by decide +kernel : ∀ t : Fin grid3.N, _)

/-- What window 8 writes back at a point is that block of the whole output. -/
theorem flushed8 (t : Fin cfg3.N) : (dat3 V c).flushed 8 t = ((cfg3.win 8).blk t).view.read (Elt Ideal) (termOut V c (dIn V c)) := by
  unfold Pipeline.Dat.flushed
  rw [after3_8, out3_8, View.canon_unit_zero zero2, View.ld_unit_zero zero2, View.ld_unit_zero zero2, block1, block4, embed2_term5]
  obtain ⟨e0, e1⟩ := index8 t
  funext j
  obtain ⟨k, r, rfl⟩ : ∃ (k : Fin 8) (r : Fin 256), j = ix2 k r := ⟨j 0, j 1, eq_ix2 _⟩
  refine (embed2_term4 _ _ _ _ k r).trans ?_
  show _ = (termOut V c (dIn V c)) (((cfg3.win 8).blk t).view.emb (ix2 k r))
  have e : ((cfg3.win 8).blk t).view.emb (ix2 k r) = ix2 k (row t r) := funext fun a => Fin.ext (by
    match a with
    | ⟨0, _⟩ => show win3_8.index t (0 : Fin 2) * 8 + 1 * k.val = k.val; omega
    | ⟨1, _⟩ => show win3_8.index t (1 : Fin 2) * 256 + 1 * r.val = t.val * 256 + r.val; omega)
  rw [e]
  exact Finset.sum_congr rfl fun f _ => congrArg (fun z : EReal => dIn V c (ix2 k f) * z) (layer_block V c t r f)

/-- Every entry of window 8's output is written back at some point. -/
theorem cover8 (i : S8x10240.Idx) : ∃ t : Fin cfg3.N, (cfg3.win 8).flush t = true ∧ i ∈ ((cfg3.win 8).blk t).view.set := by
  have h : (i 1).val < 10240 := (i 1).isLt
  let t : Fin cfg3.N := ⟨(i 1).val / 256, lt_of_lt_of_eq (show (i 1).val / 256 < 40 by omega) N_3.symm⟩
  obtain ⟨e0, e1⟩ := index8 t
  have e : ((cfg3.win 8).blk t).view.emb (ix2 (i 0 : Fin 8) (⟨(i 1).val % 256, by omega⟩ : Fin 256)) = i := funext fun a => Fin.ext (by
    match a with
    | ⟨0, _⟩ => show win3_8.index t (0 : Fin 2) * 8 + 1 * (i 0).val = (i 0).val; omega
    | ⟨1, _⟩ => show win3_8.index t (1 : Fin 2) * 256 + 1 * ((i 1).val % 256) = (i 1).val; rw [e1]; show (i 1).val / 256 * 256 + _ = _; omega)
  exact ⟨t, flush3_8 t, e ▸ ((cfg3.win 8).blk t).view.emb_mem_set _⟩

/-- Window 8's array after the launch. -/
theorem final8 : (dat3 V c).arrAt 8 cfg3.N = termOut V c (dIn V c) :=
  (dat3 V c).arrAt_eq_of_cover 8 (termOut V c (dIn V c)) (fun t _ => flushed8 V c t) cover8

end Embed2

end Cert.Proof

end
-- ==== Proof.Combine.lean ====
/- The combining region's array after it, as a function of the arrays it finds. -/
module

public import proofs.«01_k».proof.Proof.Bodies

@[expose] public section

noncomputable section

namespace Cert.Proof

open Cert.KernelIdeal Cert.KernelIdeal.Gen Idealize.ShloMosaic Idealize.ShloMosaic.TcCoe Idealize.ShloMosaic.ValueIdx Idealize.SL.Sem

namespace Combine

variable (V : (c : Dev nD) → (b : Ref sig .tc) → Buf (Elt Ideal) ((c : Thread nD τ).loc b)) (c : Dev nD)

/-! The arrays the region finds, and where each grid point's blocks lie in them. -/

/-- The first layer's table on entry. -/
abbrev xIn : FVec Ideal S10240x128 .f32 := V c main_v63_0
/-- The second layer's message sums, in two parts, on entry. -/
abbrev pIn : FVec Ideal S2x10240x128 .f32 := V c main_v113
/-- The second layer's bias on entry. -/
abbrev bIn : FVec Ideal S1x128 .f32 := V c main_v120
/-- The convolution's weights for the first layer on entry. -/
abbrev uIn : FVec Ideal S128x128 .f32 := V c main_v116
/-- The convolution's weights for the second layer on entry. -/
abbrev vIn : FVec Ideal S128x128 .f32 := V c main_v119
/-- The convolution's bias on entry. -/
abbrev kIn : FVec Ideal S1x128 .f32 := V c main_v121
/-- Row `r` of grid point `t`'s block of 256. -/
def row (t : Fin cfg4.N) (r : Fin 256) : Fin 10240 := ⟨t.val * 256 + r.val, by
  have h : t.val < 40 := lt_of_lt_of_eq t.isLt N_4
  omega⟩

/-- Which block window 0 is on at a point of the grid. -/
theorem index0 : ∀ t : Fin cfg4.N, win4_0.index t (0 : Fin 2) = t.val ∧ win4_0.index t (1 : Fin 2) = 0 :=
  (by decide +kernel : ∀ t : Fin grid4.N, _)

/-- Window 0's block at a point of the grid, read from the array it windows. -/
theorem block0 (t : Fin cfg4.N) (r : Fin 256) (q : Fin 128) : iblk4 V c 0 t (ix2 r q) = xIn V c (ix2 (row t r) q) := by
  obtain ⟨e0, e1⟩ := index0 t
  refine congrArg (xIn V c) (funext fun a => Fin.ext ?_)
  match a with
  | ⟨0, _⟩ => show win4_0.index t (0 : Fin 2) * 256 + 1 * r.val = t.val * 256 + r.val; omega
  | ⟨1, _⟩ => show win4_0.index t (1 : Fin 2) * 128 + 1 * q.val = q.val; omega

/-- Which block window 1 is on at a point of the grid. -/
theorem index1 : ∀ t : Fin cfg4.N, win4_1.index t (0 : Fin 3) = 0 ∧ win4_1.index t (1 : Fin 3) = t.val ∧ win4_1.index t (2 : Fin 3) = 0 :=
  (by decide +kernel : ∀ t : Fin grid4.N, _)

/-- Window 1's block at a point of the grid, read from the array it windows. -/
theorem block1 (t : Fin cfg4.N) (p : Fin 2) (r : Fin 256) (s : Fin 128) : iblk4 V c 1 t (ix3 p r s) = pIn V c (ix3 p (row t r) s) := by
  obtain ⟨e0, e1, e2⟩ := index1 t
  refine congrArg (pIn V c) (funext fun a => Fin.ext ?_)
  match a with
  | ⟨0, _⟩ => show win4_1.index t (0 : Fin 3) * 2 + 1 * p.val = p.val; omega
  | ⟨1, _⟩ => show win4_1.index t (1 : Fin 3) * 256 + 1 * r.val = t.val * 256 + r.val; omega
  | ⟨2, _⟩ => show win4_1.index t (2 : Fin 3) * 128 + 1 * s.val = s.val; omega

/-- Which block window 2 is on at a point of the grid. -/
theorem index2 : ∀ t : Fin cfg4.N, win4_2.index t (0 : Fin 2) = 0 ∧ win4_2.index t (1 : Fin 2) = 0 :=
  (by decide +kernel : ∀ t : Fin grid4.N, _)

/-- Window 2's block at a point of the grid, read from the array it windows. -/
theorem block2 (t : Fin cfg4.N) : iblk4 V c 2 t = bIn V c := by
  obtain ⟨e0, e1⟩ := index2 t
  funext j
  refine congrArg (bIn V c) (funext fun a => Fin.ext ?_)
  match a with
  | ⟨0, _⟩ => show win4_2.index t (0 : Fin 2) * 1 + 1 * (j 0).val = (j 0).val; omega
  | ⟨1, _⟩ => show win4_2.index t (1 : Fin 2) * 128 + 1 * (j 1).val = (j 1).val; omega

/-- Which block window 3 is on at a point of the grid. -/
theorem index3 : ∀ t : Fin cfg4.N, win4_3.index t (0 : Fin 2) = 0 ∧ win4_3.index t (1 : Fin 2) = 0 :=
  (by decide +kernel : ∀ t : Fin grid4.N, _)

/-- Window 3's block at a point of the grid, read from the array it windows. -/
theorem block3 (t : Fin cfg4.N) : iblk4 V c 3 t = uIn V c := by
  obtain ⟨e0, e1⟩ := index3 t
  funext j
  refine congrArg (uIn V c) (funext fun a => Fin.ext ?_)
  match a with
  | ⟨0, _⟩ => show win4_3.index t (0 : Fin 2) * 128 + 1 * (j 0).val = (j 0).val; omega
  | ⟨1, _⟩ => show win4_3.index t (1 : Fin 2) * 128 + 1 * (j 1).val = (j 1).val; omega

/-- Which block window 4 is on at a point of the grid. -/
theorem index4 : ∀ t : Fin cfg4.N, win4_4.index t (0 : Fin 2) = 0 ∧ win4_4.index t (1 : Fin 2) = 0 :=
  (by decide +kernel : ∀ t : Fin grid4.N, _)

/-- Window 4's block at a point of the grid, read from the array it windows. -/
theorem block4 (t : Fin cfg4.N) : iblk4 V c 4 t = vIn V c := by
  obtain ⟨e0, e1⟩ := index4 t
  funext j
  refine congrArg (vIn V c) (funext fun a => Fin.ext ?_)
  match a with
  | ⟨0, _⟩ => show win4_4.index t (0 : Fin 2) * 128 + 1 * (j 0).val = (j 0).val; omega
  | ⟨1, _⟩ => show win4_4.index t (1 : Fin 2) * 128 + 1 * (j 1).val = (j 1).val; omega

/-- Which block window 5 is on at a point of the grid. -/
theorem index5 : ∀ t : Fin cfg4.N, win4_5.index t (0 : Fin 2) = 0 ∧ win4_5.index t (1 : Fin 2) = 0 :=
  (by decide +kernel : ∀ t : Fin grid4.N, _)

/-- Window 5's block at a point of the grid, read from the array it windows. -/
theorem block5 (t : Fin cfg4.N) : iblk4 V c 5 t = kIn V c := by
  obtain ⟨e0, e1⟩ := index5 t
  funext j
  refine congrArg (kIn V c) (funext fun a => Fin.ext ?_)
  match a with
  | ⟨0, _⟩ => show win4_5.index t (0 : Fin 2) * 1 + 1 * (j 0).val = (j 0).val; omega
  | ⟨1, _⟩ => show win4_5.index t (1 : Fin 2) * 128 + 1 * (j 1).val = (j 1).val; omega

/-- The two parts of a grid point's block. -/
theorem part0 (t : Fin cfg4.N) (r : Fin 256) (f : Fin 128) :
    View.ld (iblk4 V c 1 t) r4_0 (ix3 (0 : Fin 1) r f) = pIn V c (ix3 (0 : Fin 2) (row t r) f) := by
  refine Eq.trans (congrArg (iblk4 V c 1 t) (funext fun a => Fin.ext ?_)) (block1 V c t (0 : Fin 2) r f)
  match a with
  | ⟨0, _⟩ => rfl
  | ⟨1, _⟩ => show 0 + 1 * r.val = r.val; omega
  | ⟨2, _⟩ => show 0 + 1 * f.val = f.val; omega

/-- The second part of the message sums, one block of it. -/
theorem part1 (t : Fin cfg4.N) (r : Fin 256) (f : Fin 128) :
    View.ld (iblk4 V c 1 t) r4_1 (ix3 (0 : Fin 1) r f) = pIn V c (ix3 (1 : Fin 2) (row t r) f) := by
  refine Eq.trans (congrArg (iblk4 V c 1 t) (funext fun a => Fin.ext ?_)) (block1 V c t (1 : Fin 2) r f)
  match a with
  | ⟨0, _⟩ => rfl
  | ⟨1, _⟩ => show 0 + 1 * r.val = r.val; omega
  | ⟨2, _⟩ => show 0 + 1 * f.val = f.val; omega

/-- The rectified layer output. -/
def layerOut : FVec Ideal S10240x128 .f32 := fun i =>
  max ((pIn V c (ix3 (0 : Fin 2) (i 0) (i 1)) + pIn V c (ix3 (1 : Fin 2) (i 0) (i 1))) * Ideal.ofBits .f32 0x3E000000#32 + bIn V c (ix2 (0 : Fin 1) (i 1))) 0

/-- The block of the layer's rows the body computes. -/
theorem layer_block (t : Fin cfg4.N) (r : Fin 256) (f : Fin 128) :
    k3_pay1 (F := Ideal) (View.ld (iblk4 V c 1 t) r4_0) (View.ld (iblk4 V c 1 t) r4_1) (bIn V c) (ix2 r f)
      = layerOut V c (ix2 (row t r) f) := by
  rw [embed2_x, part0, part1]
  rfl

/-- The two layer outputs combined. -/
def combOut : FVec Ideal S10240x128 .f32 := fun i =>
  (∑ j : Fin 128, xIn V c (ix2 (i 0) j) * uIn V c (ix2 j (i 1))) + (∑ j : Fin 128, layerOut V c (ix2 (i 0) j) * vIn V c (ix2 j (i 1)))
    + kIn V c (ix2 (0 : Fin 1) (i 1))

/-- Which block window 6 is on at a point of the grid. -/
theorem index6 : ∀ t : Fin cfg4.N, win4_6.index t (0 : Fin 2) = t.val ∧ win4_6.index t (1 : Fin 2) = 0 :=
  (by decide +kernel : ∀ t : Fin grid4.N, _)

/-- What window 6 writes back at a point is that block of the whole output. -/
theorem flushed6 (t : Fin cfg4.N) : (dat4 V c).flushed 6 t = ((cfg4.win 6).blk t).view.read (Elt Ideal) (combOut V c) := by
  unfold Pipeline.Dat.flushed
  rw [after4_6, out4_6, View.canon_unit_zero zero2, View.ld_unit_zero zero2, View.ld_unit_zero zero2, View.ld_unit_zero zero2, View.ld_unit_zero zero2, View.ld_unit_zero zero2, block2, block3, block4, block5]
  obtain ⟨e0, e1⟩ := index6 t
  funext j
  obtain ⟨r, k, rfl⟩ : ∃ (r : Fin 256) (k : Fin 128), j = ix2 r k := ⟨j 0, j 1, eq_ix2 _⟩
  refine (conv_apply _ _ _ _ _ _ _ r k).trans ?_
  show _ = (combOut V c) (((cfg4.win 6).blk t).view.emb (ix2 r k))
  have e : ((cfg4.win 6).blk t).view.emb (ix2 r k) = ix2 (row t r) k := funext fun a => Fin.ext (by
    match a with
    | ⟨0, _⟩ => show win4_6.index t (0 : Fin 2) * 256 + 1 * r.val = t.val * 256 + r.val; omega
    | ⟨1, _⟩ => show win4_6.index t (1 : Fin 2) * 128 + 1 * k.val = k.val; omega)
  rw [e]
  refine congrArg (fun z : EReal => z + kIn V c (ix2 (0 : Fin 1) k)) (congrArg₂ (fun y z : EReal => y + z) ?_ ?_)
  · exact Finset.sum_congr rfl fun j _ => congrArg (fun z : EReal => z * uIn V c (ix2 j k)) (block0 V c t r j)
  · exact Finset.sum_congr rfl fun j _ => congrArg (fun z : EReal => z * vIn V c (ix2 j k)) (layer_block V c t r j)

/-- Every entry of window 6's output is written back at some point. -/
theorem cover6 (i : S10240x128.Idx) : ∃ t : Fin cfg4.N, (cfg4.win 6).flush t = true ∧ i ∈ ((cfg4.win 6).blk t).view.set := by
  have h : (i 0).val < 10240 := (i 0).isLt
  let t : Fin cfg4.N := ⟨(i 0).val / 256, lt_of_lt_of_eq (show (i 0).val / 256 < 40 by omega) N_4.symm⟩
  obtain ⟨e0, e1⟩ := index6 t
  have e : ((cfg4.win 6).blk t).view.emb (ix2 (⟨(i 0).val % 256, by omega⟩ : Fin 256) (i 1 : Fin 128)) = i := funext fun a => Fin.ext (by
    match a with
    | ⟨0, _⟩ => show win4_6.index t (0 : Fin 2) * 256 + 1 * ((i 0).val % 256) = (i 0).val; rw [e0]; show (i 0).val / 256 * 256 + _ = _; omega
    | ⟨1, _⟩ => show win4_6.index t (1 : Fin 2) * 128 + 1 * (i 1).val = (i 1).val; omega)
  exact ⟨t, flush4_6 t, e ▸ ((cfg4.win 6).blk t).view.emb_mem_set _⟩

/-- Window 6's array after the launch. -/
theorem final6 : (dat4 V c).arrAt 6 cfg4.N = combOut V c :=
  (dat4 V c).arrAt_eq_of_cover 6 (combOut V c) (fun t _ => flushed6 V c t) cover6

end Combine

end Cert.Proof

end
-- ==== Proof.Pairs.lean ====
/- The bilinear region's array after it, as a function of the arrays it finds. -/
module

public import proofs.«01_k».proof.Proof.Bodies

@[expose] public section

noncomputable section

namespace Cert.Proof

open Cert.KernelIdeal Cert.KernelIdeal.Gen Idealize.ShloMosaic Idealize.ShloMosaic.TcCoe Idealize.ShloMosaic.ValueIdx Idealize.SL.Sem

namespace Pairs

variable (V : (c : Dev nD) → (b : Ref sig .tc) → Buf (Elt Ideal) ((c : Thread nD τ).loc b)) (c : Dev nD)

/-! The arrays the region finds, and where each grid point's blocks lie in them. -/

/-- The early nodes' rows on entry. -/
abbrev aIn : FVec Ideal S512x128 .f32 := V c main_v123
/-- The later nodes' rows on entry. -/
abbrev bIn : FVec Ideal S9728x128 .f32 := V c main_v124
/-- Row `r` of grid point `t`'s block of 512. -/
def row (t : Fin cfg5.N) (r : Fin 512) : Fin 9728 := ⟨t.val * 512 + r.val, by
  have h : t.val < 19 := lt_of_lt_of_eq t.isLt N_5
  omega⟩

/-- Which block window 0 is on at a point of the grid. -/
theorem index0 : ∀ t : Fin cfg5.N, win5_0.index t (0 : Fin 2) = 0 ∧ win5_0.index t (1 : Fin 2) = 0 :=
  (by decide +kernel : ∀ t : Fin grid5.N, _)

/-- Window 0's block at a point of the grid, read from the array it windows. -/
theorem block0 (t : Fin cfg5.N) : iblk5 V c 0 t = aIn V c := by
  obtain ⟨e0, e1⟩ := index0 t
  funext j
  refine congrArg (aIn V c) (funext fun a => Fin.ext ?_)
  match a with
  | ⟨0, _⟩ => show win5_0.index t (0 : Fin 2) * 512 + 1 * (j 0).val = (j 0).val; omega
  | ⟨1, _⟩ => show win5_0.index t (1 : Fin 2) * 128 + 1 * (j 1).val = (j 1).val; omega

/-- Which block window 1 is on at a point of the grid. -/
theorem index1 : ∀ t : Fin cfg5.N, win5_1.index t (0 : Fin 2) = t.val ∧ win5_1.index t (1 : Fin 2) = 0 :=
  (by decide +kernel : ∀ t : Fin grid5.N, _)

/-- Window 1's block at a point of the grid, read from the array it windows. -/
theorem block1 (t : Fin cfg5.N) (r : Fin 512) (q : Fin 128) : iblk5 V c 1 t (ix2 r q) = bIn V c (ix2 (row t r) q) := by
  obtain ⟨e0, e1⟩ := index1 t
  refine congrArg (bIn V c) (funext fun a => Fin.ext ?_)
  match a with
  | ⟨0, _⟩ => show win5_1.index t (0 : Fin 2) * 512 + 1 * r.val = t.val * 512 + r.val; omega
  | ⟨1, _⟩ => show win5_1.index t (1 : Fin 2) * 128 + 1 * q.val = q.val; omega

/-- Every left row against every right row. -/
def pairOut : FVec Ideal S512x9728 .f32 := fun i => ∑ f : Fin 128, aIn V c (ix2 (i 0) f) * bIn V c (ix2 (i 1) f)

/-- Which block window 2 is on at a point of the grid. -/
theorem index2 : ∀ t : Fin cfg5.N, win5_2.index t (0 : Fin 2) = 0 ∧ win5_2.index t (1 : Fin 2) = t.val :=
  (by decide +kernel : ∀ t : Fin grid5.N, _)

/-- What window 2 writes back at a point is that block of the whole output. -/
theorem flushed2 (t : Fin cfg5.N) : (dat5 V c).flushed 2 t = ((cfg5.win 2).blk t).view.read (Elt Ideal) (pairOut V c) := by
  unfold Pipeline.Dat.flushed
  rw [after5_2, out5_2, View.canon_unit_zero zero2, View.ld_unit_zero zero2, View.ld_unit_zero zero2, block0]
  obtain ⟨e0, e1⟩ := index2 t
  funext j
  obtain ⟨k, r, rfl⟩ : ∃ (k : Fin 512) (r : Fin 512), j = ix2 k r := ⟨j 0, j 1, eq_ix2 _⟩
  refine (bilinear_apply _ _ k r).trans ?_
  show _ = (pairOut V c) (((cfg5.win 2).blk t).view.emb (ix2 k r))
  have e : ((cfg5.win 2).blk t).view.emb (ix2 k r) = ix2 k (row t r) := funext fun a => Fin.ext (by
    match a with
    | ⟨0, _⟩ => show win5_2.index t (0 : Fin 2) * 512 + 1 * k.val = k.val; omega
    | ⟨1, _⟩ => show win5_2.index t (1 : Fin 2) * 512 + 1 * r.val = t.val * 512 + r.val; omega)
  rw [e]
  exact Finset.sum_congr rfl fun f _ => congrArg (fun z : EReal => aIn V c (ix2 k f) * z) (block1 V c t r f)

/-- Every entry of window 2's output is written back at some point. -/
theorem cover2 (i : S512x9728.Idx) : ∃ t : Fin cfg5.N, (cfg5.win 2).flush t = true ∧ i ∈ ((cfg5.win 2).blk t).view.set := by
  have h : (i 1).val < 9728 := (i 1).isLt
  let t : Fin cfg5.N := ⟨(i 1).val / 512, lt_of_lt_of_eq (show (i 1).val / 512 < 19 by omega) N_5.symm⟩
  obtain ⟨e0, e1⟩ := index2 t
  have e : ((cfg5.win 2).blk t).view.emb (ix2 (i 0 : Fin 512) (⟨(i 1).val % 512, by omega⟩ : Fin 512)) = i := funext fun a => Fin.ext (by
    match a with
    | ⟨0, _⟩ => show win5_2.index t (0 : Fin 2) * 512 + 1 * (i 0).val = (i 0).val; omega
    | ⟨1, _⟩ => show win5_2.index t (1 : Fin 2) * 512 + 1 * ((i 1).val % 512) = (i 1).val; rw [e1]; show (i 1).val / 512 * 512 + _ = _; omega)
  exact ⟨t, flush5_2 t, e ▸ ((cfg5.win 2).blk t).view.emb_mem_set _⟩

/-- Window 2's array after the launch. -/
theorem final2 : (dat5 V c).arrAt 2 cfg5.N = pairOut V c :=
  (dat5 V c).arrAt_eq_of_cover 2 (pairOut V c) (fun t _ => flushed2 V c t) cover2

end Pairs

end Cert.Proof

end
-- ==== Proof.KernelValue.lean ====
/- The kernel program's values at the nodes: each table its launches and host operations leave, as mathematics of the
   arguments, for edge lists that name nodes. -/
module

public import proofs.«01_k».proof.Proof.KernelLayout
public import proofs.«01_k».proof.Proof.Prep
public import proofs.«01_k».proof.Proof.Embed1
public import proofs.«01_k».proof.Proof.Embed2
public import proofs.«01_k».proof.Proof.Combine
public import proofs.«01_k».proof.Proof.Pairs

@[expose] public section

noncomputable section

namespace Cert.Proof.KernelValue

open Cert.KernelIdeal Cert.KernelIdeal.Gen Idealize.ShloMosaic Idealize.ShloMosaic.TcCoe Idealize.ShloMosaic.ValueIdx
open Cert.Proof.KernelEdge

variable (m : (ℓ : Loc nD τ sig) → Buf (Elt Ideal) ℓ) (ρ : Dev nD → PrngReg) (c : Dev nD)

/-- The features. -/
abbrev a0 : FVec Ideal S10000x128 .f32 := m ((c : Thread nD τ).loc main_arg0)
/-- The edge table. -/
abbrev a1 : IVec S2x320000 32 := m ((c : Thread nD τ).loc main_arg1)
/-- Layer 1's weights. -/
abbrev a2 : FVec Ideal S128x1024 .f32 := m ((c : Thread nD τ).loc main_arg2)
/-- Layer 1's source attention vectors. -/
abbrev a3 : FVec Ideal S8x128 .f32 := m ((c : Thread nD τ).loc main_arg3)
/-- Layer 1's destination attention vectors. -/
abbrev a4 : FVec Ideal S8x128 .f32 := m ((c : Thread nD τ).loc main_arg4)
/-- Layer 1's bias. -/
abbrev a5 : FVec Ideal S128 .f32 := m ((c : Thread nD τ).loc main_arg5)
/-- Layer 2's weights. -/
abbrev a6 : FVec Ideal S128x1024 .f32 := m ((c : Thread nD τ).loc main_arg6)
/-- Layer 2's source attention vectors. -/
abbrev a7 : FVec Ideal S8x128 .f32 := m ((c : Thread nD τ).loc main_arg7)
/-- Layer 2's destination attention vectors. -/
abbrev a8 : FVec Ideal S8x128 .f32 := m ((c : Thread nD τ).loc main_arg8)
/-- Layer 2's bias. -/
abbrev a9 : FVec Ideal S128 .f32 := m ((c : Thread nD τ).loc main_arg9)
/-- The convolution's weights. -/
abbrev a10 : FVec Ideal S128x2x128x1 .f32 := m ((c : Thread nD τ).loc main_arg10)
/-- The convolution's bias. -/
abbrev a11 : FVec Ideal S128 .f32 := m ((c : Thread nD τ).loc main_arg11)

/-- The edges' sources. -/
abbrev src : IVec S330000 32 := list 0 slices_S2x320000_S1x320000_0_0 (a1 m c)
/-- The edges' destinations. -/
abbrev dst : IVec S330000 32 := list 1 slices_S2x320000_S1x320000_1_0 (a1 m c)

/-! ## The edge lists and the input, carried to where they are read -/

/-- The edges' sources at boundary 1. -/
theorem src_1 : W1 m ρ c (Proc.devRef .tc main_v3) = src m c := sources (W0 m ρ c)

/-- The edges' destinations at boundary 1. -/
theorem dst_1 : W1 m ρ c (Proc.devRef .tc main_v7) = dst m c := destinations (W0 m ρ c)

/-- The edges' sources at boundary 5. -/
theorem src_5 : W5 m ρ c (Proc.devRef .tc main_v3) = src m c :=
  (W5_of m ρ c main_v3 (by decide)).trans ((W4_of m ρ c main_v3 (by decide)).trans ((W3_of m ρ c main_v3 (by decide)).trans ((W2_of m ρ c main_v3 (by decide)).trans (src_1 m ρ c))))

/-- The edges' sources at boundary 7. -/
theorem src_7 : W7 m ρ c (Proc.devRef .tc main_v3) = src m c :=
  (W7_of m ρ c main_v3 (by decide)).trans ((W6_of m ρ c main_v3 (by decide)).trans (src_5 m ρ c))

/-- The edges' sources at boundary 11. -/
theorem src_11 : W11 m ρ c (Proc.devRef .tc main_v3) = src m c :=
  (W11_of m ρ c main_v3 (by decide)).trans ((W10_of m ρ c main_v3 (by decide)).trans ((W9_of m ρ c main_v3 (by decide)).trans ((W8_of m ρ c main_v3 (by decide)).trans (src_7 m ρ c))))

/-- The edges' sources at boundary 13. -/
theorem src_13 : W13 m ρ c (Proc.devRef .tc main_v3) = src m c :=
  (W13_of m ρ c main_v3 (by decide)).trans ((W12_of m ρ c main_v3 (by decide)).trans (src_11 m ρ c))

/-- The edges' destinations at boundary 5. -/
theorem dst_5 : W5 m ρ c (Proc.devRef .tc main_v7) = dst m c :=
  (W5_of m ρ c main_v7 (by decide)).trans ((W4_of m ρ c main_v7 (by decide)).trans ((W3_of m ρ c main_v7 (by decide)).trans ((W2_of m ρ c main_v7 (by decide)).trans (dst_1 m ρ c))))

/-- The edges' destinations at boundary 7. -/
theorem dst_7 : W7 m ρ c (Proc.devRef .tc main_v7) = dst m c :=
  (W7_of m ρ c main_v7 (by decide)).trans ((W6_of m ρ c main_v7 (by decide)).trans (dst_5 m ρ c))

/-- The edges' destinations at boundary 11. -/
theorem dst_11 : W11 m ρ c (Proc.devRef .tc main_v7) = dst m c :=
  (W11_of m ρ c main_v7 (by decide)).trans ((W10_of m ρ c main_v7 (by decide)).trans ((W9_of m ρ c main_v7 (by decide)).trans ((W8_of m ρ c main_v7 (by decide)).trans (dst_7 m ρ c))))

/-- The edges' destinations at boundary 13. -/
theorem dst_13 : W13 m ρ c (Proc.devRef .tc main_v7) = dst m c :=
  (W13_of m ρ c main_v7 (by decide)).trans ((W12_of m ρ c main_v7 (by decide)).trans (dst_11 m ρ c))

/-- The padded features after the host code before the first launch. -/
theorem input_2 : W2 m ρ c (Proc.devRef .tc main_v8) = padded (constantI S_ 32 0#32) (a0 m c) := by
  refine (padded_0 (W1 m ρ c)).trans ?_
  rw [show W1 m ρ c (Proc.devRef .tc main_c) = constantI S_ 32 0#32 from filler_0 (W0 m ρ c), W1_args m ρ c main_arg0 (by decide)]

/-- The padded features when the first projection is entered. -/
theorem input_4 : W4 m ρ c (Proc.devRef .tc main_v8) = padded (constantI S_ 32 0#32) (a0 m c) :=
  (W4_of m ρ c main_v8 (by decide)).trans ((W3_of m ρ c main_v8 (by decide)).trans (input_2 m ρ c))

/-! ## The carried attention vectors -/

/-- Layer 1's carried source vectors at boundary 3. -/
theorem s1_3 : W3 m ρ c (Proc.devRef .tc main_v9_0) = Prep.carriedArr (a2 m c) (a3 m c) := by
  refine (W3_arr m ρ c 3).trans ((Prep.final0_3 (V2 m ρ) c).trans ?_)
  rw [show V2 m ρ c main_arg2 = a2 m c from W2_args m ρ c main_arg2 (by decide), show V2 m ρ c main_arg3 = a3 m c from W2_args m ρ c main_arg3 (by decide)]

/-- Layer 1's carried destination vectors at boundary 3. -/
theorem d1_3 : W3 m ρ c (Proc.devRef .tc main_v9_1) = Prep.carriedArr (a2 m c) (a4 m c) := by
  refine (W3_arr m ρ c 4).trans ((Prep.final0_4 (V2 m ρ) c).trans ?_)
  rw [show V2 m ρ c main_arg2 = a2 m c from W2_args m ρ c main_arg2 (by decide), show V2 m ρ c main_arg4 = a4 m c from W2_args m ρ c main_arg4 (by decide)]

/-- Layer 1's carried source vectors at boundary 4. -/
theorem s1_4 : W4 m ρ c (Proc.devRef .tc main_v9_0) = Prep.carriedArr (a2 m c) (a3 m c) :=
  (W4_of m ρ c main_v9_0 (by decide)).trans (s1_3 m ρ c)

/-- Layer 1's carried destination vectors at boundary 4. -/
theorem d1_4 : W4 m ρ c (Proc.devRef .tc main_v9_1) = Prep.carriedArr (a2 m c) (a4 m c) :=
  (W4_of m ρ c main_v9_1 (by decide)).trans (d1_3 m ρ c)

/-- Layer 2's carried source vectors at boundary 4. -/
theorem s2_4 : W4 m ρ c (Proc.devRef .tc main_v10_0) = Prep.carriedArr (a6 m c) (a7 m c) := by
  refine (W4_arr m ρ c 3).trans ((Prep.final1_3 (V3 m ρ) c).trans ?_)
  rw [show V3 m ρ c main_arg6 = a6 m c from W3_args m ρ c main_arg6 (by decide), show V3 m ρ c main_arg7 = a7 m c from W3_args m ρ c main_arg7 (by decide)]

/-- Layer 2's carried destination vectors at boundary 4. -/
theorem d2_4 : W4 m ρ c (Proc.devRef .tc main_v10_1) = Prep.carriedArr (a6 m c) (a8 m c) := by
  refine (W4_arr m ρ c 4).trans ((Prep.final1_4 (V3 m ρ) c).trans ?_)
  rw [show V3 m ρ c main_arg6 = a6 m c from W3_args m ρ c main_arg6 (by decide), show V3 m ρ c main_arg8 = a8 m c from W3_args m ρ c main_arg8 (by decide)]

/-- Layer 2's carried source vectors at boundary 10. -/
theorem s2_10 : W10 m ρ c (Proc.devRef .tc main_v10_0) = Prep.carriedArr (a6 m c) (a7 m c) :=
  (W10_of m ρ c main_v10_0 (by decide)).trans ((W9_of m ρ c main_v10_0 (by decide)).trans ((W8_of m ρ c main_v10_0 (by decide)).trans ((W7_of m ρ c main_v10_0 (by decide)).trans ((W6_of m ρ c main_v10_0 (by decide)).trans ((W5_of m ρ c main_v10_0 (by decide)).trans (s2_4 m ρ c))))))

/-- Layer 2's carried destination vectors at boundary 10. -/
theorem d2_10 : W10 m ρ c (Proc.devRef .tc main_v10_1) = Prep.carriedArr (a6 m c) (a8 m c) :=
  (W10_of m ρ c main_v10_1 (by decide)).trans ((W9_of m ρ c main_v10_1 (by decide)).trans ((W8_of m ρ c main_v10_1 (by decide)).trans ((W7_of m ρ c main_v10_1 (by decide)).trans ((W6_of m ρ c main_v10_1 (by decide)).trans ((W5_of m ρ c main_v10_1 (by decide)).trans (d2_4 m ρ c))))))

/-! ## Layer 1's features and terms at the nodes -/

/-- A node's row of the padded features. -/
theorem input_row (i : Fin 10000) (f : Fin 128) : Embed1.xIn (V4 m ρ) c (ix2 (up i) f) = a0 m c (ix2 i f) := by
  rw [show Embed1.xIn (V4 m ρ) c = padded (constantI S_ 32 0#32) (a0 m c) from input_4 m ρ c, padded_apply]

/-- The first projection's features at a node. -/
theorem feat_1 (i : Fin 10000) (k : Fin 1024) :
    (W5 m ρ c (Proc.devRef .tc main_v11_0) : FVec Ideal S10240x1024 .f32) (ix2 (up i) k) = feat (tab (a0 m c)) (tab (a2 m c)) i k := by
  rw [show (W5 m ρ c (Proc.devRef .tc main_v11_0) : FVec Ideal S10240x1024 .f32) = Embed1.featOut (V4 m ρ) c from
    (W5_arr m ρ c 4).trans (Embed1.final4 (V4 m ρ) c)]
  show (∑ f : Fin 128, Embed1.xIn (V4 m ρ) c (ix2 (up i) f) * Embed1.wIn (V4 m ρ) c (ix2 f k)) = ∑ f : Fin 128, a0 m c (ix2 i f) * a2 m c (ix2 f k)
  refine Finset.sum_congr rfl fun f _ => ?_
  rw [show Embed1.wIn (V4 m ρ) c = a2 m c from W4_args m ρ c main_arg2 (by decide)]
  exact congrArg (fun z : EReal => z * a2 m c (ix2 f k)) (input_row m ρ c i f)

/-- The first projection's source term at a node. -/
theorem terms_1 (i : Fin 10000) (h : Fin 8) :
    (W5 m ρ c (Proc.devRef .tc main_v11_1) : FVec Ideal S8x10240 .f32) (ix2 h (up i)) = termK (tab (a3 m c)) (tab (a2 m c)) (tab (a0 m c)) i h := by
  rw [show (W5 m ρ c (Proc.devRef .tc main_v11_1) : FVec Ideal S8x10240 .f32) = Embed1.termOut (V4 m ρ) c (Prep.carriedArr (a2 m c) (a3 m c)) from
    (W5_arr m ρ c 5).trans ((Embed1.final5 (V4 m ρ) c).trans
      (congrArg (Embed1.termOut (V4 m ρ) c) (s1_4 m ρ c)))]
  show (∑ f : Fin 128, carried (tab (a3 m c)) (tab (a2 m c)) h f * Embed1.xIn (V4 m ρ) c (ix2 (up i) f))
    = ∑ f : Fin 128, carried (tab (a3 m c)) (tab (a2 m c)) h f * a0 m c (ix2 i f)
  refine Finset.sum_congr rfl fun f _ => ?_
  exact congrArg (fun z : EReal => carried (tab (a3 m c)) (tab (a2 m c)) h f * z) (input_row m ρ c i f)

/-- The first projection's destination term at a node. -/
theorem termd_1 (i : Fin 10000) (h : Fin 8) :
    (W5 m ρ c (Proc.devRef .tc main_v11_2) : FVec Ideal S8x10240 .f32) (ix2 h (up i)) = termK (tab (a4 m c)) (tab (a2 m c)) (tab (a0 m c)) i h := by
  rw [show (W5 m ρ c (Proc.devRef .tc main_v11_2) : FVec Ideal S8x10240 .f32) = Embed1.termOut (V4 m ρ) c (Prep.carriedArr (a2 m c) (a4 m c)) from
    (W5_arr m ρ c 6).trans ((Embed1.final6 (V4 m ρ) c).trans
      (congrArg (Embed1.termOut (V4 m ρ) c) (d1_4 m ρ c)))]
  show (∑ f : Fin 128, carried (tab (a4 m c)) (tab (a2 m c)) h f * Embed1.xIn (V4 m ρ) c (ix2 (up i) f))
    = ∑ f : Fin 128, carried (tab (a4 m c)) (tab (a2 m c)) h f * a0 m c (ix2 i f)
  refine Finset.sum_congr rfl fun f _ => ?_
  exact congrArg (fun z : EReal => carried (tab (a4 m c)) (tab (a2 m c)) h f * z) (input_row m ρ c i f)

/-! ## Layer 1's message sums and output -/

variable (S D : Fin 330000 → Fin 10000)

/-- Layer 1 as the kernel computes it. -/
def layer1 (i : Fin 10000) (f : Fin 128) : EReal :=
  layerK (tab (a0 m c)) (tab (a2 m c)) (tab (a3 m c)) (tab (a4 m c)) (fun f => a5 m c (ix1 f)) S D i f

/-- Layer 2 as the kernel computes it. -/
def layer2 (i : Fin 10000) (f : Fin 128) : EReal :=
  layerK (layer1 m c S D) (tab (a6 m c)) (tab (a7 m c)) (tab (a8 m c)) (fun f => a9 m c (ix1 f)) S D i f

/-- The combined embedding as the kernel computes it. -/
def combined (i : Fin 10000) (k : Fin 128) : EReal :=
  (∑ j : Fin 128, layer1 m c S D i j * a10 m c (ix4 k (0 : Fin 2) j (0 : Fin 1)))
    + (∑ j : Fin 128, layer2 m c S D i j * a10 m c (ix4 k (1 : Fin 2) j (0 : Fin 1))) + a11 m c (ix1 k)

variable {S D} (hS : Names (src m c) S) (hD : Names (dst m c) D)

/-- The first layer's rectified scores. -/
theorem rectified_1v : W7 m ρ c (Proc.devRef .tc main_v29)
    = rectified (constant (F := Ideal) S_ .f32 0x3E4CCCCD#32) (scores (W5 m ρ c (Proc.devRef .tc main_v11_1)) (W5 m ρ c (Proc.devRef .tc main_v11_2)) (src m c) (dst m c)) := by
  refine (rectified_1 (W6 m ρ c)).trans ?_
  rw [show W6 m ρ c (Proc.devRef .tc main_cst) = (constant (F := Ideal) S_ .f32 0x3E4CCCCD#32) from slope_1 (W5 m ρ c), show W6 m ρ c (Proc.devRef .tc main_v28) = _ from scores_1 (W5 m ρ c),
    src_5 m ρ c, dst_5 m ρ c]

include hS hD in
/-- The first layer's message sums at a node. -/
theorem message_1 (i : Fin 10000) (f : Fin 128) :
    (W8 m ρ c (Proc.devRef .tc main_v56) : FVec Ideal S10000x128 .f32) (ix2 i f)
      = messagesK (fun i h => (W5 m ρ c (Proc.devRef .tc main_v11_1) : FVec Ideal S8x10240 .f32) (ix2 h (up i)))
          (fun i h => (W5 m ρ c (Proc.devRef .tc main_v11_2) : FVec Ideal S8x10240 .f32) (ix2 h (up i)))
          (fun i k => (W5 m ρ c (Proc.devRef .tc main_v11_0) : FVec Ideal S10240x1024 .f32) (ix2 (up i) k)) S D i f := by
  rw [show W8 m ρ c (Proc.devRef .tc main_v56) = _ from nodeSums_1 (W7 m ρ c), rectified_1v m ρ c, src_7 m ρ c, dst_7 m ρ c,
    show W7 m ρ c (Proc.devRef .tc main_v11_0) = W5 m ρ c (Proc.devRef .tc main_v11_0) from (W7_of m ρ c main_v11_0 (by decide)).trans (W6_of m ρ c main_v11_0 (by decide))]
  exact messages_apply hS hD _ _ _ i f

/-- The first layer's message sums as they enter the second projection. -/
theorem parts_1 : W10 m ρ c (Proc.devRef .tc main_v61) = twoParts (padded (constantI S_ 32 0#32) (W8 m ρ c (Proc.devRef .tc main_v56))) := by
  refine (twoParts_1 (W9 m ρ c)).trans ?_
  rw [show W9 m ρ c (Proc.devRef .tc main_v57) = _ from padded_1 (W8 m ρ c),
    show W8 m ρ c (Proc.devRef .tc main_c_11) = constantI S_ 32 0#32 from filler_1 (W7 m ρ c)]

include hS hD in
/-- The first layer's row of a node. -/
theorem layer1_row (i : Fin 10000) (f : Fin 128) : Embed2.layerOut (V10 m ρ) c (ix2 (up i) f) = layer1 m c S D i f := by
  show max ((Embed2.pIn (V10 m ρ) c (ix3 (0 : Fin 2) (up i) f) + Embed2.pIn (V10 m ρ) c (ix3 (1 : Fin 2) (up i) f)) * Ideal.ofBits .f32 0x3E000000#32
    + Embed2.bIn (V10 m ρ) c (ix2 (0 : Fin 1) f)) 0 = _
  rw [show Embed2.pIn (V10 m ρ) c = _ from parts_1 m ρ c, twoParts_zero, twoParts_one, padded_apply, message_1 m ρ c hS hD,
    show Embed2.bIn (V10 m ρ) c = asRow (W9 m ρ c (Proc.devRef .tc main_arg5)) from bias_1 (W9 m ρ c), asRow_apply,
    W9_args m ρ c main_arg5 (by decide)]
  unfold layer1 layerK scaledK
  rw [show (fun (i : Fin 10000) (h : Fin 8) => (W5 m ρ c (Proc.devRef .tc main_v11_1) : FVec Ideal S8x10240 .f32) (ix2 h (up i))) = _ from
      funext fun i => funext fun h => terms_1 m ρ c i h,
    show (fun (i : Fin 10000) (h : Fin 8) => (W5 m ρ c (Proc.devRef .tc main_v11_2) : FVec Ideal S8x10240 .f32) (ix2 h (up i))) = _ from
      funext fun i => funext fun h => termd_1 m ρ c i h,
    show (fun (i : Fin 10000) (k : Fin 1024) => (W5 m ρ c (Proc.devRef .tc main_v11_0) : FVec Ideal S10240x1024 .f32) (ix2 (up i) k)) = _ from
      funext fun i => funext fun k => feat_1 m ρ c i k]

/-! ## Layer 2 -/

include hS hD in
/-- The second projection's features at a node. -/
theorem feat_2 (i : Fin 10000) (k : Fin 1024) :
    (W11 m ρ c (Proc.devRef .tc main_v63_1) : FVec Ideal S10240x1024 .f32) (ix2 (up i) k) = feat (layer1 m c S D) (tab (a6 m c)) i k := by
  rw [show (W11 m ρ c (Proc.devRef .tc main_v63_1) : FVec Ideal S10240x1024 .f32) = Embed2.featOut (V10 m ρ) c from
    (W11_arr m ρ c 6).trans (Embed2.final6 (V10 m ρ) c)]
  show (∑ f : Fin 128, Embed2.layerOut (V10 m ρ) c (ix2 (up i) f) * Embed2.wIn (V10 m ρ) c (ix2 f k)) = ∑ f : Fin 128, layer1 m c S D i f * a6 m c (ix2 f k)
  refine Finset.sum_congr rfl fun f _ => ?_
  rw [show Embed2.wIn (V10 m ρ) c = a6 m c from W10_args m ρ c main_arg6 (by decide)]
  exact congrArg (fun z : EReal => z * a6 m c (ix2 f k)) (layer1_row m ρ c hS hD i f)

include hS hD in
/-- The second projection's source term at a node. -/
theorem terms_2 (i : Fin 10000) (h : Fin 8) :
    (W11 m ρ c (Proc.devRef .tc main_v63_2) : FVec Ideal S8x10240 .f32) (ix2 h (up i)) = termK (tab (a7 m c)) (tab (a6 m c)) (layer1 m c S D) i h := by
  rw [show (W11 m ρ c (Proc.devRef .tc main_v63_2) : FVec Ideal S8x10240 .f32) = Embed2.termOut (V10 m ρ) c (Prep.carriedArr (a6 m c) (a7 m c)) from
    (W11_arr m ρ c 7).trans ((Embed2.final7 (V10 m ρ) c).trans
      (congrArg (Embed2.termOut (V10 m ρ) c) (s2_10 m ρ c)))]
  show (∑ f : Fin 128, carried (tab (a7 m c)) (tab (a6 m c)) h f * Embed2.layerOut (V10 m ρ) c (ix2 (up i) f))
    = ∑ f : Fin 128, carried (tab (a7 m c)) (tab (a6 m c)) h f * layer1 m c S D i f
  refine Finset.sum_congr rfl fun f _ => ?_
  exact congrArg (fun z : EReal => carried (tab (a7 m c)) (tab (a6 m c)) h f * z) (layer1_row m ρ c hS hD i f)

include hS hD in
/-- The second projection's destination term at a node. -/
theorem termd_2 (i : Fin 10000) (h : Fin 8) :
    (W11 m ρ c (Proc.devRef .tc main_v63_3) : FVec Ideal S8x10240 .f32) (ix2 h (up i)) = termK (tab (a8 m c)) (tab (a6 m c)) (layer1 m c S D) i h := by
  rw [show (W11 m ρ c (Proc.devRef .tc main_v63_3) : FVec Ideal S8x10240 .f32) = Embed2.termOut (V10 m ρ) c (Prep.carriedArr (a6 m c) (a8 m c)) from
    (W11_arr m ρ c 8).trans ((Embed2.final8 (V10 m ρ) c).trans
      (congrArg (Embed2.termOut (V10 m ρ) c) (d2_10 m ρ c)))]
  show (∑ f : Fin 128, carried (tab (a8 m c)) (tab (a6 m c)) h f * Embed2.layerOut (V10 m ρ) c (ix2 (up i) f))
    = ∑ f : Fin 128, carried (tab (a8 m c)) (tab (a6 m c)) h f * layer1 m c S D i f
  refine Finset.sum_congr rfl fun f _ => ?_
  exact congrArg (fun z : EReal => carried (tab (a8 m c)) (tab (a6 m c)) h f * z) (layer1_row m ρ c hS hD i f)

/-- The second layer's rectified scores. -/
theorem rectified_2v : W13 m ρ c (Proc.devRef .tc main_v81)
    = rectified (constant (F := Ideal) S_ .f32 0x3E4CCCCD#32) (scores (W11 m ρ c (Proc.devRef .tc main_v63_2)) (W11 m ρ c (Proc.devRef .tc main_v63_3)) (src m c) (dst m c)) := by
  refine (rectified_2 (W12 m ρ c)).trans ?_
  rw [show W12 m ρ c (Proc.devRef .tc main_cst_17) = (constant (F := Ideal) S_ .f32 0x3E4CCCCD#32) from slope_2 (W11 m ρ c), show W12 m ρ c (Proc.devRef .tc main_v80) = _ from scores_2 (W11 m ρ c),
    src_11 m ρ c, dst_11 m ρ c]

include hS hD in
/-- The second layer's message sums at a node. -/
theorem message_2 (i : Fin 10000) (f : Fin 128) :
    (W14 m ρ c (Proc.devRef .tc main_v108) : FVec Ideal S10000x128 .f32) (ix2 i f)
      = messagesK (fun i h => (W11 m ρ c (Proc.devRef .tc main_v63_2) : FVec Ideal S8x10240 .f32) (ix2 h (up i)))
          (fun i h => (W11 m ρ c (Proc.devRef .tc main_v63_3) : FVec Ideal S8x10240 .f32) (ix2 h (up i)))
          (fun i k => (W11 m ρ c (Proc.devRef .tc main_v63_1) : FVec Ideal S10240x1024 .f32) (ix2 (up i) k)) S D i f := by
  rw [show W14 m ρ c (Proc.devRef .tc main_v108) = _ from nodeSums_2 (W13 m ρ c), rectified_2v m ρ c, src_13 m ρ c, dst_13 m ρ c,
    show W13 m ρ c (Proc.devRef .tc main_v63_1) = W11 m ρ c (Proc.devRef .tc main_v63_1) from (W13_of m ρ c main_v63_1 (by decide)).trans (W12_of m ρ c main_v63_1 (by decide))]
  exact messages_apply hS hD _ _ _ i f

/-- The second layer's message sums as they enter the combining launch. -/
theorem parts_2 : W16 m ρ c (Proc.devRef .tc main_v113) = twoParts (padded (constantI S_ 32 0#32) (W14 m ρ c (Proc.devRef .tc main_v108))) := by
  refine (twoParts_2 (W15 m ρ c)).trans ?_
  rw [show W15 m ρ c (Proc.devRef .tc main_v109) = _ from padded_2 (W14 m ρ c),
    show W14 m ρ c (Proc.devRef .tc main_c_25) = constantI S_ 32 0#32 from filler_2 (W13 m ρ c)]

include hS hD in
/-- The second layer's row of a node. -/
theorem layer2_row (i : Fin 10000) (f : Fin 128) : Combine.layerOut (V16 m ρ) c (ix2 (up i) f) = layer2 m c S D i f := by
  show max ((Combine.pIn (V16 m ρ) c (ix3 (0 : Fin 2) (up i) f) + Combine.pIn (V16 m ρ) c (ix3 (1 : Fin 2) (up i) f)) * Ideal.ofBits .f32 0x3E000000#32
    + Combine.bIn (V16 m ρ) c (ix2 (0 : Fin 1) f)) 0 = _
  rw [show Combine.pIn (V16 m ρ) c = _ from parts_2 m ρ c, twoParts_zero, twoParts_one, padded_apply, message_2 m ρ c hS hD,
    show Combine.bIn (V16 m ρ) c = asRow (W15 m ρ c (Proc.devRef .tc main_arg9)) from bias_2 (W15 m ρ c), asRow_apply,
    W15_args m ρ c main_arg9 (by decide)]
  unfold layer2 layerK scaledK
  rw [show (fun (i : Fin 10000) (h : Fin 8) => (W11 m ρ c (Proc.devRef .tc main_v63_2) : FVec Ideal S8x10240 .f32) (ix2 h (up i))) = _ from
      funext fun i => funext fun h => terms_2 m ρ c hS hD i h,
    show (fun (i : Fin 10000) (h : Fin 8) => (W11 m ρ c (Proc.devRef .tc main_v63_3) : FVec Ideal S8x10240 .f32) (ix2 h (up i))) = _ from
      funext fun i => funext fun h => termd_2 m ρ c hS hD i h,
    show (fun (i : Fin 10000) (k : Fin 1024) => (W11 m ρ c (Proc.devRef .tc main_v63_1) : FVec Ideal S10240x1024 .f32) (ix2 (up i) k)) = _ from
      funext fun i => funext fun k => feat_2 m ρ c hS hD i k]

/-! ## The combined embedding and the results -/

include hS hD in
/-- The first layer's row of a node when the combining launch is entered. -/
theorem kept_row (i : Fin 10000) (f : Fin 128) : Combine.xIn (V16 m ρ) c (ix2 (up i) f) = layer1 m c S D i f := by
  rw [show Combine.xIn (V16 m ρ) c = Embed2.layerOut (V10 m ρ) c from
    (W16_of m ρ c main_v63_0 (by decide)).trans ((W15_of m ρ c main_v63_0 (by decide)).trans ((W14_of m ρ c main_v63_0 (by decide)).trans
      ((W13_of m ρ c main_v63_0 (by decide)).trans ((W12_of m ρ c main_v63_0 (by decide)).trans
        ((W11_arr m ρ c 5).trans (Embed2.final5 (V10 m ρ) c))))))]
  exact layer1_row m ρ c hS hD i f

include hS hD in
/-- The combined row of a node. -/
theorem combined_row (i : Fin 10000) (k : Fin 128) :
    (W17 m ρ c (Proc.devRef .tc main_v122) : FVec Ideal S10240x128 .f32) (ix2 (up i) k) = combined m c S D i k := by
  rw [show (W17 m ρ c (Proc.devRef .tc main_v122) : FVec Ideal S10240x128 .f32) = Combine.combOut (V16 m ρ) c from
    (W17_arr m ρ c 6).trans (Combine.final6 (V16 m ρ) c)]
  show (∑ j : Fin 128, Combine.xIn (V16 m ρ) c (ix2 (up i) j) * Combine.uIn (V16 m ρ) c (ix2 j k))
    + (∑ j : Fin 128, Combine.layerOut (V16 m ρ) c (ix2 (up i) j) * Combine.vIn (V16 m ρ) c (ix2 j k))
    + Combine.kIn (V16 m ρ) c (ix2 (0 : Fin 1) k) = _
  rw [show Combine.uIn (V16 m ρ) c = half 0 _ (W15 m ρ c (Proc.devRef .tc main_arg10)) from half_0 (W15 m ρ c),
    show Combine.vIn (V16 m ρ) c = half 1 _ (W15 m ρ c (Proc.devRef .tc main_arg10)) from half_1 (W15 m ρ c),
    show Combine.kIn (V16 m ρ) c = asRow (W15 m ρ c (Proc.devRef .tc main_arg11)) from bias_3 (W15 m ρ c), asRow_apply,
    W15_args m ρ c main_arg10 (by decide), W15_args m ρ c main_arg11 (by decide)]
  unfold combined
  simp only [half_apply, kept_row m ρ c hS hD, layer2_row m ρ c hS hD]

/-- Node `504 + r`. -/
abbrev later (r : Fin 9496) : Fin 10000 := ⟨504 + r.val, by omega⟩
/-- Node `r` of the first 504. -/
abbrev early (r : Fin 504) : Fin 10000 := Fin.castLE (by decide) r

include hS hD in
/-- The second result: the first 504 nodes' rows. -/
theorem out1 (r : Fin 504) (k : Fin 128) :
    (W20 m ρ c (Proc.devRef .tc main_v126) : FVec Ideal S504x128 .f32) (ix2 r k) = combined m c S D (early r) k := by
  rw [show (W20 m ρ c (Proc.devRef .tc main_v126) : FVec Ideal S504x128 .f32) = _ from result_1 (W19 m ρ c),
    W19_of m ρ c main_v122 (by decide), W18_of m ρ c main_v122 (by decide)]
  refine (extractStridedSlice_apply _ _ _ _ (ix2 (up (early r)) k) fun a => ?_).trans (combined_row m ρ c hS hD _ k)
  match a with
  | ⟨0, _⟩ => show r.val = 0 + r.val; omega
  | ⟨1, _⟩ => show k.val = 0 + k.val; omega

include hS hD in
/-- The third result: the later nodes' rows. -/
theorem out2 (r : Fin 9496) (k : Fin 128) :
    (W20 m ρ c (Proc.devRef .tc main_v127) : FVec Ideal S9496x128 .f32) (ix2 r k) = combined m c S D (later r) k := by
  rw [show (W20 m ρ c (Proc.devRef .tc main_v127) : FVec Ideal S9496x128 .f32) = _ from result_2 (W19 m ρ c),
    W19_of m ρ c main_v122 (by decide), W18_of m ρ c main_v122 (by decide)]
  refine (extractStridedSlice_apply _ _ _ _ (ix2 (up (later r)) k) fun a => ?_).trans (combined_row m ρ c hS hD _ k)
  match a with
  | ⟨0, _⟩ => rfl
  | ⟨1, _⟩ => show k.val = 0 + k.val; omega

include hS hD in
/-- The first result: the products of the early nodes' rows with the later nodes'. -/
theorem out0 (r : Fin 504) (q : Fin 9496) :
    (W20 m ρ c (Proc.devRef .tc main_v128) : FVec Ideal S504x9496 .f32) (ix2 r q)
      = ∑ f : Fin 128, combined m c S D (early r) f * combined m c S D (later q) f := by
  rw [show (W20 m ρ c (Proc.devRef .tc main_v128) : FVec Ideal S504x9496 .f32) = _ from result_0 (W19 m ρ c),
    show W19 m ρ c (Proc.devRef .tc main_v125) = Pairs.pairOut (V18 m ρ) c from (W19_arr m ρ c 2).trans (Pairs.final2 (V18 m ρ) c)]
  refine (extractStridedSlice_apply _ _ _ _ (ix2 (Fin.castLE (by decide) r : Fin 512) (Fin.castLE (by decide) q : Fin 9728)) fun a => ?_).trans ?_
  · match a with
    | ⟨0, _⟩ => show r.val = 0 + r.val; omega
    | ⟨1, _⟩ => show q.val = 0 + q.val; omega
  show (∑ f : Fin 128, Pairs.aIn (V18 m ρ) c (ix2 (Fin.castLE (by decide) r : Fin 512) f)
    * Pairs.bIn (V18 m ρ) c (ix2 (Fin.castLE (by decide) q : Fin 9728) f)) = _
  refine Finset.sum_congr rfl fun f _ => congrArg₂ (fun w z : EReal => w * z) ?_ ?_
  · rw [show Pairs.aIn (V18 m ρ) c = _ from rows_a (W17 m ρ c)]
    refine (extractStridedSlice_apply _ _ _ _ (ix2 (up (early r)) f) fun a => ?_).trans (combined_row m ρ c hS hD _ f)
    match a with
    | ⟨0, _⟩ => show r.val = 0 + r.val; omega
    | ⟨1, _⟩ => show f.val = 0 + f.val; omega
  · rw [show Pairs.bIn (V18 m ρ) c = _ from rows_b (W17 m ρ c)]
    refine (extractStridedSlice_apply _ _ _ _ (ix2 (up (later q)) f) fun a => ?_).trans (combined_row m ρ c hS hD _ f)
    match a with
    | ⟨0, _⟩ => rfl
    | ⟨1, _⟩ => show f.val = 0 + f.val; omega

end Cert.Proof.KernelValue

end
-- ==== Proof.RefLayer.lean ====
/- The reference's layer at an index, as mathematics of its arguments, for edge lists that name nodes. -/
module

public import proofs.«01_k».proof.Proof.EdgeList
public import proofs.«01_k».proof.Proof.Gen.ReferenceIdeal.Read
public import Idealize.ShloMosaic.Lib.StackMember

@[expose] public section

noncomputable section

namespace Cert.Proof

open Idealize.ShloMosaic Idealize.ShloMosaic.ValueIdx

/-- The pattern of negative infinity is the least extended real. -/
theorem neg_inf_coe : Ideal.ofBits .f32 0xFF800000#32 = ⊥ := by simp [Ideal.ofBits, Ideal.ieee]

/-- The maximum of finitely many extended reals, none positive infinity and one of them finite, is finite. -/
theorem fold_max_finite {ι : Type} [DecidableEq ι] (f : ι → EReal) (hf : ∀ b, f b = ⊥ ∨ Finite (f b)) (s : Finset ι) :
    (s.fold max ⊥ f = ⊥ ∨ Finite (s.fold max ⊥ f)) ∧ ∀ b ∈ s, Finite (f b) → Finite (s.fold max ⊥ f) := by
  induction s using Finset.induction_on with
  | empty => exact ⟨.inl rfl, fun b hb => absurd hb (Finset.notMem_empty b)⟩
  | insert a s ha ih =>
    obtain ⟨ih, ih'⟩ := ih
    rw [Finset.fold_insert ha]
    have pair : ∀ {p q : EReal}, Finite p → q = ⊥ ∨ Finite q → Finite (max p q) := fun {p q} hp hq => by
      rcases hq with hq | hq
      · rw [hq, max_bot_right]; exact hp
      · rcases max_choice p q with e | e <;> rw [e] <;> assumption
    refine ⟨?_, fun b hb hfin => ?_⟩
    · rcases hf a with e | e
      · rw [e, max_bot_left]; exact ih
      · exact .inr (pair e ih)
    · rcases Finset.mem_insert.1 hb with rfl | hb
      · exact pair hfin ih
      · rw [max_comm]; exact pair (ih' b hb hfin) (hf a)

/-- A maximum over the middle one of three axes, from negative infinity. -/
theorem middle_max {A B K : Nat} {u : Shape} (X : FVec Ideal ⟨3, ![A, B, K]⟩ .f32)
    (h : (⟨3, ![A, B, K]⟩ : Shape).ReducesTo [1] ⟨2, ![A, K]⟩) (hu : 0 < u.numel) (a : Fin A) (k : Fin K) :
    Host.reduce FloatOps.maximumf X (constant (F := Ideal) u .f32 0xFF800000#32) h hu (ix2 a k)
      = (Finset.univ : Finset (Fin B)).fold max ⊥ fun b => (X (ix3 a b k) : EReal) := by
  have h' : (⟨3, ![A, B, K]⟩ : Shape).Reduces [1] ⟨2, ![A, K]⟩ := ⟨h.1, Nat.two_pos, h.2⟩
  rw [Host.reduce_eq_fold_single FloatOps.maximumf X _ h h' hu, constant_apply, neg_inf_coe]
  refine congrArg (fun f => Finset.fold max (⊥ : EReal) f (Finset.univ : Finset (Fin B))) (funext fun b => congrArg X (funext fun d => Fin.ext ?_))
  match d with
  | ⟨0, _⟩ => rfl
  | ⟨1, _⟩ => rfl
  | ⟨2, _⟩ => rfl

/-- A table set up as a stack of one and repeated along the first axis. -/
theorem stack_apply {α : Type} {A B K : Nat} (h₁ : (⟨2, ![B, K]⟩ : Shape).BroadcastsInDim ⟨3, ![1, B, K]⟩ ![1, 2])
    (h₂ : (⟨3, ![1, B, K]⟩ : Shape).BroadcastsInDim ⟨3, ![A, B, K]⟩ ![0, 1, 2]) (x : (⟨2, ![B, K]⟩ : Shape).Idx → α)
    (a : Fin A) (b : Fin B) (k : Fin K) :
    broadcastInDim ⟨3, ![A, B, K]⟩ ![0, 1, 2] h₂ (broadcastInDim ⟨3, ![1, B, K]⟩ ![1, 2] h₁ x) (ix3 a b k) = x (ix2 b k) := by
  have hb := b.isLt
  have hk := k.isLt
  rw [broadcastInDim_apply ![0, 1, 2] h₂ _ _ (ix3 (0 : Fin 1) b k) fun d => ?_,
    broadcastInDim_apply ![1, 2] h₁ _ _ (ix2 b k) fun d => ?_]
  · match d with
    | ⟨0, _⟩ => show b.val = if B = 1 then 0 else b.val; split <;> omega
    | ⟨1, _⟩ => show k.val = if K = 1 then 0 else k.val; split <;> omega
  · match d with
    | ⟨0, _⟩ => show (0 : Nat) = if (1 : Nat) = 1 then 0 else a.val; rfl
    | ⟨1, _⟩ => show b.val = if B = 1 then 0 else b.val; split <;> omega
    | ⟨2, _⟩ => show k.val = if K = 1 then 0 else k.val; split <;> omega

/-- A row set up as a table of one and repeated down. -/
theorem row_apply {α : Type} {A K : Nat} (h₁ : (⟨1, ![K]⟩ : Shape).BroadcastsInDim ⟨2, ![1, K]⟩ ![1])
    (h₂ : (⟨2, ![1, K]⟩ : Shape).BroadcastsInDim ⟨2, ![A, K]⟩ ![0, 1]) (x : (⟨1, ![K]⟩ : Shape).Idx → α) (a : Fin A) (k : Fin K) :
    broadcastInDim ⟨2, ![A, K]⟩ ![0, 1] h₂ (broadcastInDim ⟨2, ![1, K]⟩ ![1] h₁ x) (ix2 a k) = x (ix1 k) := by
  have hk := k.isLt
  rw [broadcastInDim_apply ![0, 1] h₂ _ _ (ix2 (0 : Fin 1) k) fun d => ?_, broadcastInDim_apply ![1] h₁ _ _ (ix1 k) fun d => ?_]
  · rw [Subsingleton.elim d 0]; show k.val = if K = 1 then 0 else k.val; split <;> omega
  · match d with
    | ⟨0, _⟩ => show (0 : Nat) = if (1 : Nat) = 1 then 0 else a.val; rfl
    | ⟨1, _⟩ => show k.val = if K = 1 then 0 else k.val; split <;> omega

/-- A column set up as a table of one and repeated along the rows. -/
theorem side_apply {α : Type} {A K : Nat} (h₁ : (⟨1, ![A]⟩ : Shape).BroadcastsInDim ⟨2, ![A, 1]⟩ ![0])
    (h₂ : (⟨2, ![A, 1]⟩ : Shape).BroadcastsInDim ⟨2, ![A, K]⟩ ![0, 1]) (x : (⟨1, ![A]⟩ : Shape).Idx → α) (a : Fin A) (k : Fin K) :
    broadcastInDim ⟨2, ![A, K]⟩ ![0, 1] h₂ (broadcastInDim ⟨2, ![A, 1]⟩ ![0] h₁ x) (ix2 a k) = x (ix1 a) := by
  have ha := a.isLt
  rw [broadcastInDim_apply ![0, 1] h₂ _ _ (ix2 a (0 : Fin 1)) fun d => ?_, column_apply]
  match d with
  | ⟨0, _⟩ => show a.val = if A = 1 then 0 else a.val; split <;> omega
  | ⟨1, _⟩ => show (0 : Nat) = if (1 : Nat) = 1 then 0 else k.val; rfl

/-- A selection on a set bit. -/
theorem select_one {α : Type} (p q : α) : Scalar.select 1#1 p q = p := rfl

/-- An array's exponential at an index. -/
theorem exp_apply {s : Shape} (x : FVec Ideal s .f32) (j : s.Idx) : Host.exp x j = Ideal.exp (x j) := rfl

namespace RefLayer

open Cert.ReferenceIdeal Cert.ReferenceIdeal.Gen Cert.ReferenceIdeal.Read

variable (x0 : FVec Ideal S10000x128 .f32) (x1 : IVec S2x320000 32) (x2 : FVec Ideal S128x1024 .f32)
  (x3 x4 : FVec Ideal S8x128 .f32) (x5 : FVec Ideal S128 .f32)

/-- An array of two axes as a table. -/
abbrev tab2 {A B : Nat} (x : FVec Ideal ⟨2, ![A, B]⟩ .f32) (a : Fin A) (b : Fin B) : EReal := x (ix2 a b)

variable {S D : Fin 330000 → Fin 10000}

/-- The features of a node, by head. -/
theorem v8_apply (i : Fin 10000) (h : Fin 8) (k : Fin 128) :
    (val_main_v8 (F := Ideal) x0 x2) (ix3 i h k) = feat (tab2 x0) (tab2 x2) i (col h k) := by
  unfold val_main_v8
  refine (runs_apply (A := 10000) (B := 8) (K := 128) _ _ i h k (col h k) rfl).trans ?_
  exact StackMember.dotGeneral_plain_apply none x0 x2 i (col h k)

/-- A node's source term. -/
theorem v12_apply (i : Fin 10000) (h : Fin 8) :
    (val_main_v12 (F := Ideal) x0 x2 x3) (ix2 i h) = termR (tab2 x3) (tab2 x2) (tab2 x0) i h := by
  unfold val_main_v12
  refine (last_sum (A := 10000) (B := 8) (K := 128) _ _ _ _ (fun j => by unfold val_main_cst; rw [constant_apply, Ideal.ofBits_zero_f32]) i h).trans ?_
  refine congrArg (fun w : EReal => 0 + w) (Finset.sum_congr rfl fun k _ => ?_)
  unfold val_main_v11
  rw [mulf_apply, v8_apply]
  exact congrArg (fun w : EReal => feat (tab2 x0) (tab2 x2) i (col h k) * w) (stack_apply (A := 10000) (B := 8) (K := 128) _ _ x3 i h k)

/-- A node's destination term. -/
theorem v16_apply (i : Fin 10000) (h : Fin 8) :
    (val_main_v16 (F := Ideal) x0 x2 x4) (ix2 i h) = termR (tab2 x4) (tab2 x2) (tab2 x0) i h := v12_apply x0 x2 x4 i h

variable (hS : Names (val_main_v3 (F := Ideal) x1) S) (hD : Names (val_main_v6 (F := Ideal) x1) D)

include hS in
/-- The wrapped source column names the edges' sources. -/
theorem v22_names : ColNames (val_main_v22 (F := Ideal) x1) S := (hS.wrapped (by decide) _ _).column _

include hD in
/-- The wrapped destination column names the edges' destinations. -/
theorem v29_names : ColNames (val_main_v29 (F := Ideal) x1) D := (hD.wrapped (by decide) _ _).column _

include hD in
/-- The plain destination column names the edges' destinations. -/
theorem v53_names : ColNames (val_main_v53 (F := Ideal) x1) D := hD.column _

include hS hD in
/-- An edge's logit. -/
theorem v32_apply (e : Fin 330000) (h : Fin 8) :
    (val_main_v32 (F := Ideal) x0 x1 x2 x3 x4) (ix2 e h) = logitsR (tab2 x0) (tab2 x2) (tab2 x3) (tab2 x4) S D e h := by
  have e31 : (val_main_v31 (F := Ideal) x0 x1 x2 x3 x4) (ix2 e h)
      = termR (tab2 x3) (tab2 x2) (tab2 x0) (S e) h + termR (tab2 x4) (tab2 x2) (tab2 x0) (D e) h := by
    unfold val_main_v31
    rw [addf_apply]
    refine congrArg₂ (fun w z : EReal => w + z) ?_ ?_
    · refine ((v22_names x1 hS).rows (M := 10000) (C := 8) (by decide) (by decide) (by decide) _ _ e h).trans ?_
      exact v12_apply x0 x2 x3 (S e) h
    · refine ((v29_names x1 hD).rows (M := 10000) (C := 8) (by decide) (by decide) (by decide) _ _ e h).trans ?_
      exact v16_apply x0 x2 x4 (D e) h
  unfold val_main_v32 val_main_call0_v1 val_main_call0_v4 val_main_call0_v3 val_main_call0_v0 val_main_call0_v2 val_main_cst_4 val_main_call0_cst
  rw [select_apply, cmpf_apply, mulf_apply, zeros_apply, broadcastInDim_scalar_apply, e31]
  rfl

/-- The number subtracted at each node. -/
def top (i : Fin 10000) (h : Fin 8) : EReal := (val_main_v42 (F := Ideal) x0 x1 x2 x3 x4) (ix2 i h)

/-- The masked logit of an edge at a node. -/
theorem v41_apply (i : Fin 10000) (e : Fin 330000) (h : Fin 8) :
    (val_main_v41 (F := Ideal) x0 x1 x2 x3 x4) (ix3 i e h)
      = Scalar.select (IntOp.cmpi .eq ((val_main_v6 (F := Ideal) x1) (ix1 e)) (BitVec.ofNat 32 i.val))
          ((val_main_v32 (F := Ideal) x0 x1 x2 x3 x4) (ix2 e h)) (⊥ : EReal) := by
  unfold val_main_v41
  rw [select_apply]
  have e1 : (val_main_call1_v1 (F := Ideal) x1) (ix3 i e h)
      = IntOp.cmpi .eq ((val_main_v6 (F := Ideal) x1) (ix1 e)) (BitVec.ofNat 32 i.val) := by
    refine (spread_apply (A := 10000) (B := 330000) (K := 8) _ _ (val_main_v38 (F := Ideal) x1) i e h).trans ?_
    unfold val_main_v38
    refine congrArg₂ (IntOp.cmpi .eq) (row_apply (A := 10000) (K := 330000) _ _ _ i e) ?_
    exact (side_apply (A := 10000) (K := 330000) _ _ _ i e)
  have e2 : (val_main_call1_v2 (F := Ideal) x0 x1 x2 x3 x4) (ix3 i e h) = (val_main_v32 (F := Ideal) x0 x1 x2 x3 x4) (ix2 e h) :=
    stack_apply (A := 10000) (B := 330000) (K := 8) _ _ _ i e h
  have e3 : (val_main_call1_v3 (F := Ideal)) (ix3 i e h) = (⊥ : EReal) := neg_inf_coe
  rw [e1, e2, e3]

include hS hD in
/-- Every node has an edge into it, so on finite features, weights and attention vectors the number subtracted there is finite. -/
theorem top_finite (hl : ∀ i, ∃ e, D e = i) (hx : ∀ i f, Finite (tab2 x0 i f)) (hW : ∀ f c, Finite (tab2 x2 f c))
    (hs : ∀ h j, Finite (tab2 x3 h j)) (hd : ∀ h j, Finite (tab2 x4 h j)) (i : Fin 10000) (h : Fin 8) :
    Finite (top x0 x1 x2 x3 x4 i h) := by
  have hv : ∀ e, Finite ((val_main_v32 (F := Ideal) x0 x1 x2 x3 x4) (ix2 e h)) := fun e => by
    rw [v32_apply x0 x1 x2 x3 x4 hS hD e h]
    exact logitsR_finite _ _ _ _ S D hx hW hs hd e h
  obtain ⟨e₀, he₀⟩ := hl i
  unfold top val_main_v42
  rw [show Host.reduce FloatOps.maximumf (val_main_v41 (F := Ideal) x0 x1 x2 x3 x4) val_main_cst_6 _ _ (ix2 i h) = _ from
    middle_max (A := 10000) (B := 330000) (K := 8) _ _ _ i h]
  refine (fold_max_finite _ (fun e => ?_) _).2 e₀ (Finset.mem_univ _) ?_
  · rw [v41_apply]
    unfold Scalar.select
    split
    · exact .inr (hv e)
    · exact .inl rfl
  · rw [v41_apply]
    have hw : IntOp.cmpi .eq ((val_main_v6 (F := Ideal) x1) (ix1 e₀)) (BitVec.ofNat 32 i.val) = 1#1 := by
      rw [IntOp.cmpi_eq]
      refine BitVec.eq_of_toNat_eq ?_
      have := i.isLt
      rw [hD e₀, he₀, BitVec.toNat_ofNat, Nat.mod_eq_of_lt (by omega)]
    rw [hw, select_one]
    exact hv e₀

include hS hD in
/-- An edge's weight. -/
theorem v51_apply (e : Fin 330000) (h : Fin 8) :
    (val_main_v51 (F := Ideal) x0 x1 x2 x3 x4) (ix2 e h)
      = weightR (logitsR (tab2 x0) (tab2 x2) (tab2 x3) (tab2 x4) S D) (top x0 x1 x2 x3 x4) D e h := by
  unfold val_main_v51 val_main_v50 weightR
  rw [exp_apply, subf_apply, v32_apply x0 x1 x2 x3 x4 hS hD e h]
  refine congrArg (fun w : EReal => Ideal.exp (logitsR (tab2 x0) (tab2 x2) (tab2 x3) (tab2 x4) S D e h - w)) ?_
  exact (v29_names x1 hD).rows (M := 10000) (C := 8) (by decide) (by decide) (by decide) _ _ e h

include hS hD in
/-- An edge's share. -/
theorem v62_apply (e : Fin 330000) (h : Fin 8) :
    (val_main_v62 (F := Ideal) x0 x1 x2 x3 x4) (ix2 e h)
      = share (weightR (logitsR (tab2 x0) (tab2 x2) (tab2 x3) (tab2 x4) S D) (top x0 x1 x2 x3 x4) D) D e h := by
  unfold val_main_v62 share
  rw [hostDivf_apply, v51_apply x0 x1 x2 x3 x4 hS hD e h]
  refine congrArg (Ideal.div _) ?_
  refine ((v29_names x1 hD).rows (M := 10000) (C := 8) (by decide) (by decide) (by decide) _ _ e h).trans ?_
  refine ((v53_names x1 hD).sumRows (C := 8) (by decide) _ _ _ (fun j => zeros_apply _ j) (D e) h).trans ?_
  exact congrArg (fun q => gatherIn D q (D e)) (funext fun e' => v51_apply x0 x1 x2 x3 x4 hS hD e' h)

include hS hD in
/-- The messages summed into a node, over the heads. -/
theorem v76_apply (i : Fin 10000) (f : Fin 128) :
    (val_main_v76 (F := Ideal) x0 x1 x2 x3 x4) (ix2 i f)
      = gatheredR (feat (tab2 x0) (tab2 x2))
          (share (weightR (logitsR (tab2 x0) (tab2 x2) (tab2 x3) (tab2 x4) S D) (top x0 x1 x2 x3 x4) D) D) S D i f := by
  unfold val_main_v76 gatheredR
  refine (middle_sum (A := 10000) (B := 8) (K := 128) _ _ _ _ (fun j => by unfold val_main_cst_15; rw [constant_apply, Ideal.ofBits_zero_f32]) i f).trans ?_
  refine congrArg (fun w : EReal => 0 + w) (Finset.sum_congr rfl fun h _ => ?_)
  refine ((v53_names x1 hD).sumSlabs (H := 8) (C := 128) (by decide) _ _ _ (fun j => zeros_apply _ j) i h f).trans ?_
  refine congrArg (fun q => gatherIn D q i) (funext fun e => ?_)
  unfold val_main_v72
  rw [mulf_apply]
  refine congrArg₂ (fun w z : EReal => w * z) ?_ ?_
  · refine ((v22_names x1 hS).slabs (H := 8) (C := 128) (by decide) (by decide) _ _ e h f).trans ?_
    exact v8_apply x0 x2 (S e) h f
  · refine (spread_apply (A := 330000) (B := 8) (K := 128) _ _ _ e h f).trans ?_
    exact v62_apply x0 x1 x2 x3 x4 hS hD e h

include hS hD in
/-- THE LAYER at a node and a channel. -/
theorem v82_apply (i : Fin 10000) (f : Fin 128) :
    (val_main_v82 (F := Ideal) x0 x1 x2 x3 x4 x5) (ix2 i f)
      = layerR (tab2 x0) (tab2 x2) (tab2 x3) (tab2 x4) (fun f => x5 (ix1 f)) S D (top x0 x1 x2 x3 x4) i f := by
  have e80 : (val_main_v80 (F := Ideal) x5) (ix2 i f) = x5 (ix1 f) := row_apply (A := 10000) (K := 128) _ _ x5 i f
  unfold val_main_v82 val_main_v81 val_main_v78 val_main_call2_v0 val_main_call2_cst val_main_v77 val_main_cst_16
  rw [maximumf_apply, zeros_apply, addf_apply, hostDivf_apply, broadcastInDim_scalar_apply, v76_apply x0 x1 x2 x3 x4 hS hD, e80]
  rfl

end RefLayer

end Cert.Proof

end
-- ==== Proof.RefValue.lean ====
/- The reference's results at an index, from the two layers' tables. -/
module

public import proofs.«01_k».proof.Proof.RefLayer

@[expose] public section

noncomputable section

namespace Cert.Proof.RefValue

open Idealize.ShloMosaic Idealize.ShloMosaic.ValueIdx
open Cert.ReferenceIdeal Cert.ReferenceIdeal.Gen Cert.ReferenceIdeal.Read Cert.Proof.RefLayer

variable (x0 : FVec Ideal S10000x128 .f32) (x1 : IVec S2x320000 32) (x2 : FVec Ideal S128x1024 .f32)
  (x3 x4 : FVec Ideal S8x128 .f32) (x5 : FVec Ideal S128 .f32) (x6 : FVec Ideal S128x1024 .f32)
  (x7 x8 : FVec Ideal S8x128 .f32) (x9 : FVec Ideal S128 .f32) (x10 : FVec Ideal S128x2x128x1 .f32) (x11 : FVec Ideal S128 .f32)

/-- The first layer's table. -/
abbrev first : FVec Ideal S10000x128 .f32 := val_main_v82 (F := Ideal) x0 x1 x2 x3 x4 x5

/-- The second layer's table: the same layer on the first one's. -/
abbrev second : FVec Ideal S10000x128 .f32 := val_main_v82 (F := Ideal) (first x0 x1 x2 x3 x4 x5) x1 x6 x7 x8 x9

/-- The second layer is the first one's text on the first one's table. -/
theorem v158_eq : val_main_v158 (F := Ideal) x0 x1 x2 x3 x4 x5 x6 x7 x8 x9 = second x0 x1 x2 x3 x4 x5 x6 x7 x8 x9 := rfl

/-- The two layers side by side: channel `j` of the first. -/
theorem v159_first (i : Fin 10000) (j : Fin 128) (c : Fin 256) (hc : c.val = j.val) :
    (val_main_v159 (F := Ideal) x0 x1 x2 x3 x4 x5 x6 x7 x8 x9) (ix2 i c) = first x0 x1 x2 x3 x4 x5 (ix2 i j) := by
  unfold val_main_v159
  refine concatenate_pair_apply_left (t := S10000x256) (s₁ := S10000x128) (s₂ := S10000x128) 1 _ _ _ (ix2 i c) rfl (ix2 i j) fun b => ?_
  match b with
  | ⟨0, _⟩ => rfl
  | ⟨1, _⟩ => exact hc.symm

/-- The two layers side by side: channel `j` of the second. -/
theorem v159_second (i : Fin 10000) (j : Fin 128) (c : Fin 256) (hc : c.val = j.val + 128) :
    (val_main_v159 (F := Ideal) x0 x1 x2 x3 x4 x5 x6 x7 x8 x9) (ix2 i c) = second x0 x1 x2 x3 x4 x5 x6 x7 x8 x9 (ix2 i j) := by
  unfold val_main_v159
  rw [v158_eq]
  refine concatenate_pair_apply_right (t := S10000x256) (s₁ := S10000x128) (s₂ := S10000x128) 1 _ _ _ (ix2 i c) rfl rfl (ix2 i j)
    (fun b hb => ?_) hc.symm
  match b with
  | ⟨0, _⟩ => rfl
  | ⟨1, _⟩ => exact absurd rfl hb

/-- The convolution's weights by output channel and (layer, channel). -/
theorem v161_apply (k : Fin 128) (l : Fin 2) (j : Fin 128) (c : Fin 256) (hc : c.val = l.val * 128 + j.val) :
    (val_main_v161 (F := Ideal) x10) (ix2 k c) = x10 (ix4 k l j (0 : Fin 1)) := by
  unfold val_main_v161
  refine shapeCast_apply _ _ _ _ ?_
  rw [Shape.rowMajor_val_two, Shape.rowMajor_val_four]
  show ((k.val * 2 + l.val) * 128 + j.val) * 1 + 0 = k.val * 256 + c.val
  omega

/-- A node's combined row: the convolution of its two layers' channels, and its bias. -/
theorem v166_apply (i : Fin 10000) (k : Fin 128) :
    (val_main_v166 (F := Ideal) x0 x1 x2 x3 x4 x5 x6 x7 x8 x9 x10 x11) (ix2 i k)
      = (∑ j : Fin 128, first x0 x1 x2 x3 x4 x5 (ix2 i j) * x10 (ix4 k (0 : Fin 2) j (0 : Fin 1)))
        + (∑ j : Fin 128, second x0 x1 x2 x3 x4 x5 x6 x7 x8 x9 (ix2 i j) * x10 (ix4 k (1 : Fin 2) j (0 : Fin 1))) + x11 (ix1 k) := by
  unfold val_main_v166
  rw [transpose_apply [1, 0] _ transposes_S128x10000_S10000x128_1_0 (ix2 i k) (ix2 k i)
    (fun b => by match b with | ⟨0, _⟩ => rfl | ⟨1, _⟩ => rfl)]
  unfold val_main_v165
  rw [addf_apply]
  refine congrArg₂ (fun w z : EReal => w + z) ?_ (side_apply (A := 128) (K := 10000) _ _ x11 k i)
  unfold val_main_v162
  refine (StackMember.dotGeneral_plain_apply none (val_main_v161 (F := Ideal) x10)
    (val_main_v160 (F := Ideal) x0 x1 x2 x3 x4 x5 x6 x7 x8 x9) k i).trans ?_
  have hT : ∀ c : Fin 256, (val_main_v160 (F := Ideal) x0 x1 x2 x3 x4 x5 x6 x7 x8 x9) (ix2 c i)
      = (val_main_v159 (F := Ideal) x0 x1 x2 x3 x4 x5 x6 x7 x8 x9) (ix2 i c) := fun c => by
    unfold val_main_v160
    exact transpose_apply [1, 0] _ transposes_S10000x256_S256x10000_1_0 (ix2 c i) (ix2 i c)
      (fun b => by match b with | ⟨0, _⟩ => rfl | ⟨1, _⟩ => rfl)
  refine (Fin.sum_univ_add (a := 128) (b := 128) fun c : Fin 256 => ((val_main_v161 (F := Ideal) x10) (ix2 k c)
    * (val_main_v160 (F := Ideal) x0 x1 x2 x3 x4 x5 x6 x7 x8 x9) (ix2 c i) : EReal)).trans ?_
  refine congrArg₂ (fun w z : EReal => w + z) (Finset.sum_congr rfl fun j _ => ?_) (Finset.sum_congr rfl fun j _ => ?_)
  · rw [hT, v161_apply x10 k 0 j _ (by show j.val = 0 * 128 + j.val; omega),
      v159_first x0 x1 x2 x3 x4 x5 x6 x7 x8 x9 i j _ rfl]
    exact mul_comm (G := EReal) _ _
  · rw [hT, v161_apply x10 k 1 j _ (by show 128 + j.val = 1 * 128 + j.val; omega),
      v159_second x0 x1 x2 x3 x4 x5 x6 x7 x8 x9 i j _ (by show 128 + j.val = j.val + 128; omega)]
    exact mul_comm (G := EReal) _ _

/-- The second result: the first 504 rows. -/
theorem v167_apply (r : Fin 504) (k : Fin 128) (i : Fin 10000) (hi : i.val = r.val) :
    (val_main_v167 (F := Ideal) x0 x1 x2 x3 x4 x5 x6 x7 x8 x9 x10 x11) (ix2 r k)
      = (val_main_v166 (F := Ideal) x0 x1 x2 x3 x4 x5 x6 x7 x8 x9 x10 x11) (ix2 i k) := by
  unfold val_main_v167
  refine extractStridedSlice_apply _ _ _ _ _ fun a => ?_
  match a with
  | ⟨0, _⟩ => show i.val = 0 + r.val; omega
  | ⟨1, _⟩ => show k.val = 0 + k.val; omega

/-- The third result: the other rows. -/
theorem v168_apply (r : Fin 9496) (k : Fin 128) (i : Fin 10000) (hi : i.val = 504 + r.val) :
    (val_main_v168 (F := Ideal) x0 x1 x2 x3 x4 x5 x6 x7 x8 x9 x10 x11) (ix2 r k)
      = (val_main_v166 (F := Ideal) x0 x1 x2 x3 x4 x5 x6 x7 x8 x9 x10 x11) (ix2 i k) := by
  unfold val_main_v168
  refine extractStridedSlice_apply _ _ _ _ _ fun a => ?_
  match a with
  | ⟨0, _⟩ => exact hi
  | ⟨1, _⟩ => show k.val = 0 + k.val; omega

/-- The first result: the products of the second result's rows with the third's. -/
theorem v170_apply (r : Fin 504) (q : Fin 9496) :
    (val_main_v170 (F := Ideal) x0 x1 x2 x3 x4 x5 x6 x7 x8 x9 x10 x11) (ix2 r q)
      = ∑ f : Fin 128, (val_main_v167 (F := Ideal) x0 x1 x2 x3 x4 x5 x6 x7 x8 x9 x10 x11) (ix2 r f)
          * (val_main_v168 (F := Ideal) x0 x1 x2 x3 x4 x5 x6 x7 x8 x9 x10 x11) (ix2 q f) := by
  unfold val_main_v170
  refine (StackMember.dotGeneral_plain_apply none _ (val_main_v169 (F := Ideal) x0 x1 x2 x3 x4 x5 x6 x7 x8 x9 x10 x11) r q).trans ?_
  refine Finset.sum_congr rfl fun f _ => ?_
  unfold val_main_v169
  rw [transpose_apply [1, 0] _ transposes_S9496x128_S128x9496_1_0 (ix2 f q) (ix2 q f)
    (fun b => by match b with | ⟨0, _⟩ => rfl | ⟨1, _⟩ => rfl)]

end Cert.Proof.RefValue

end
-- ==== Proof.Agree.lean ====
/- The kernel's results and the reference's are the same arrays, on arguments the precondition admits. -/
module

public import proofs.«01_k».proof.Proof.Inputs
public import proofs.«01_k».proof.Proof.KernelValue
public import proofs.«01_k».proof.Proof.RefValue

@[expose] public section

noncomputable section

namespace Cert.Proof.Agree

open Cert.KernelIdeal Cert.KernelIdeal.Gen Idealize.ShloMosaic Idealize.ShloMosaic.TcCoe Idealize.ShloMosaic.ValueIdx
open Cert.Proof.KernelValue Cert.ReferenceIdeal.Read

variable (m : (ℓ : Loc nD τ sig) → Buf (Elt Ideal) ℓ) (ρ : Dev nD → PrngReg) (c : Dev nD)

/-- The precondition of the arguments on one device. -/
def Admitted : Prop :=
  Cert.Pre_finite_inputs.fn (F := Ideal) (a0 m c) (a1 m c) (a2 m c) (a3 m c) (a4 m c) (a5 m c) (a6 m c) (a7 m c) (a8 m c) (a9 m c)
    (a10 m c) (a11 m c) ix0 = 1#1

/-- The nodes the edges join, one self loop at each node among them. -/
theorem nodes (h : Admitted m c) : ∃ S D : Fin 330000 → Fin 10000, Names (src m c) S ∧ Names (dst m c) D ∧ ∀ i, ∃ e, D e = i := by
  have hx := (Inputs.read _ _ _ _ _ _ _ _ _ _ _ _ h).2.1
  obtain ⟨S, hS, -⟩ := edgeList_names (r := 0) (hs := slices_S2x320000_S1x320000_0_0) (hc := shapeCasts_S1x320000_S320000)
    (hp := concatenates_S320000_S10000_S330000_d0) (a1 m c) fun e => hx _
  obtain ⟨D, hD, hl⟩ := edgeList_names (r := 1) (hs := slices_S2x320000_S1x320000_1_0) (hc := shapeCasts_S1x320000_S320000)
    (hp := concatenates_S320000_S10000_S330000_d0) (a1 m c) fun e => hx _
  exact ⟨S, D, hS, hD, hl⟩

variable {S D : Fin 330000 → Fin 10000}

/-- The first layers agree, and where they agree they are finite. -/
theorem layer1_eq (h : Admitted m c) (hS : Names (src m c) S) (hD : Names (dst m c) D) (hl : ∀ i, ∃ e, D e = i) (i : Fin 10000) (f : Fin 128) :
    layer1 m c S D i f = RefValue.first (a0 m c) (a1 m c) (a2 m c) (a3 m c) (a4 m c) (a5 m c) (ix2 i f) ∧ Finite (layer1 m c S D i f) := by
  obtain ⟨h0, -, h2, h3, h4, h5, -, -, -⟩ := Inputs.read _ _ _ _ _ _ _ _ _ _ _ _ h
  obtain ⟨r, hk, hr⟩ := layerK_eq_layerR (tab (a0 m c)) (tab (a2 m c)) (tab (a3 m c)) (tab (a4 m c)) (fun f => a5 m c (ix1 f)) S D
    (RefLayer.top (a0 m c) (a1 m c) (a2 m c) (a3 m c) (a4 m c)) (fun _ _ => h0 _) (fun _ _ => h2 _) (fun _ _ => h3 _) (fun _ _ => h4 _)
    (RefLayer.top_finite _ _ _ _ _ hS hD hl (fun _ _ => h0 _) (fun _ _ => h2 _) (fun _ _ => h3 _) (fun _ _ => h4 _)) i f
  refine ⟨hk.trans (hr.symm.trans (RefLayer.v82_apply _ _ _ _ _ _ hS hD i f).symm), ?_⟩
  rw [show layer1 m c S D i f = _ from hk]
  exact relu_finite r (h5 _)

/-- The second layers agree. -/
theorem layer2_eq (h : Admitted m c) (hS : Names (src m c) S) (hD : Names (dst m c) D) (hl : ∀ i, ∃ e, D e = i) (i : Fin 10000) (f : Fin 128) :
    layer2 m c S D i f = RefValue.second (a0 m c) (a1 m c) (a2 m c) (a3 m c) (a4 m c) (a5 m c) (a6 m c) (a7 m c) (a8 m c) (a9 m c) (ix2 i f) := by
  obtain ⟨-, -, -, -, -, -, h6, h7, h8⟩ := Inputs.read _ _ _ _ _ _ _ _ _ _ _ _ h
  have e1 : layer1 m c S D = tab (RefValue.first (a0 m c) (a1 m c) (a2 m c) (a3 m c) (a4 m c) (a5 m c)) :=
    funext fun i => funext fun f => (layer1_eq m c h hS hD hl i f).1
  have hf : ∀ i f, Finite (tab (RefValue.first (a0 m c) (a1 m c) (a2 m c) (a3 m c) (a4 m c) (a5 m c)) i f) := fun i f =>
    e1 ▸ (layer1_eq m c h hS hD hl i f).2
  unfold layer2
  rw [e1]
  obtain ⟨r, hk, hr⟩ := layerK_eq_layerR (tab (RefValue.first (a0 m c) (a1 m c) (a2 m c) (a3 m c) (a4 m c) (a5 m c)))
    (tab (a6 m c)) (tab (a7 m c)) (tab (a8 m c)) (fun f => a9 m c (ix1 f)) S D
    (RefLayer.top (RefValue.first (a0 m c) (a1 m c) (a2 m c) (a3 m c) (a4 m c) (a5 m c)) (a1 m c) (a6 m c) (a7 m c) (a8 m c))
    hf (fun _ _ => h6 _) (fun _ _ => h7 _) (fun _ _ => h8 _)
    (RefLayer.top_finite _ _ _ _ _ hS hD hl hf (fun _ _ => h6 _) (fun _ _ => h7 _) (fun _ _ => h8 _)) i f
  exact hk.trans (hr.symm.trans (RefLayer.v82_apply _ _ _ _ _ _ hS hD i f).symm)

/-- The combined rows agree. -/
theorem combined_eq (h : Admitted m c) (hS : Names (src m c) S) (hD : Names (dst m c) D) (hl : ∀ i, ∃ e, D e = i) (i : Fin 10000) (k : Fin 128) :
    combined m c S D i k = val_main_v166 (F := Ideal) (a0 m c) (a1 m c) (a2 m c) (a3 m c) (a4 m c) (a5 m c) (a6 m c) (a7 m c) (a8 m c) (a9 m c)
      (a10 m c) (a11 m c) (ix2 i k) := by
  refine Eq.trans ?_ (RefValue.v166_apply _ _ _ _ _ _ _ _ _ _ _ _ i k).symm
  unfold combined
  refine congrArg (fun w : EReal => w + a11 m c (ix1 k)) (congrArg₂ (fun w z : EReal => w + z)
    (Finset.sum_congr rfl fun j _ => ?_) (Finset.sum_congr rfl fun j _ => ?_))
  · rw [(layer1_eq m c h hS hD hl i j).1]
  · rw [layer2_eq m c h hS hD hl i j]

/-- The second results agree. -/
theorem result1 (h : Admitted m c) :
    (W20 m ρ c (Proc.devRef .tc main_v126) : FVec Ideal S504x128 .f32)
      = val_main_v167 (F := Ideal) (a0 m c) (a1 m c) (a2 m c) (a3 m c) (a4 m c) (a5 m c) (a6 m c) (a7 m c) (a8 m c) (a9 m c) (a10 m c) (a11 m c) := by
  obtain ⟨S, D, hS, hD, hl⟩ := nodes m c h
  funext i
  rw [eq_ix2 i]
  refine (out1 m ρ c hS hD _ _).trans ((combined_eq m c h hS hD hl _ _).trans ?_)
  exact (RefValue.v167_apply _ _ _ _ _ _ _ _ _ _ _ _ _ _ _ rfl).symm

/-- The third results agree. -/
theorem result2 (h : Admitted m c) :
    (W20 m ρ c (Proc.devRef .tc main_v127) : FVec Ideal S9496x128 .f32)
      = val_main_v168 (F := Ideal) (a0 m c) (a1 m c) (a2 m c) (a3 m c) (a4 m c) (a5 m c) (a6 m c) (a7 m c) (a8 m c) (a9 m c) (a10 m c) (a11 m c) := by
  obtain ⟨S, D, hS, hD, hl⟩ := nodes m c h
  funext i
  rw [eq_ix2 i]
  refine (out2 m ρ c hS hD _ _).trans ((combined_eq m c h hS hD hl _ _).trans ?_)
  exact (RefValue.v168_apply _ _ _ _ _ _ _ _ _ _ _ _ _ _ _ rfl).symm

/-- The first results agree. -/
theorem result0 (h : Admitted m c) :
    (W20 m ρ c (Proc.devRef .tc main_v128) : FVec Ideal S504x9496 .f32)
      = val_main_v170 (F := Ideal) (a0 m c) (a1 m c) (a2 m c) (a3 m c) (a4 m c) (a5 m c) (a6 m c) (a7 m c) (a8 m c) (a9 m c) (a10 m c) (a11 m c) := by
  obtain ⟨S, D, hS, hD, hl⟩ := nodes m c h
  funext i
  rw [eq_ix2 i]
  refine (out0 m ρ c hS hD _ _).trans (Eq.trans ?_ (RefValue.v170_apply _ _ _ _ _ _ _ _ _ _ _ _ _ _).symm)
  show (∑ f : Fin 128, combined m c S D (early (i 0)) f * combined m c S D (later (i 1)) f : EReal) = _
  refine Finset.sum_congr rfl fun f _ => ?_
  rw [RefValue.v167_apply _ _ _ _ _ _ _ _ _ _ _ _ _ _ (early (i 0)) rfl, RefValue.v168_apply _ _ _ _ _ _ _ _ _ _ _ _ _ _ (later (i 1)) rfl,
    ← combined_eq m c h hS hD hl, ← combined_eq m c h hS hD hl]

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.ReferenceIdeal
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelRun
public import proofs.«01_k».proof.Proof.Agree
public import Idealize.ShloMosaic.Adequacy
public import Idealize.ShloMosaic.Init

@[expose] public section

noncomputable section

namespace Cert.Proof

open Idealize.ShloMosaic Idealize.ShloMosaic.ValueIdx Idealize.ShloMosaic.TcCoe Idealize.ShloMosaic.StableHlo Idealize.SL.Sem

/-- The reference runs to its end with its arguments unchanged and declares no semaphore. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

/-- From memories that agree on arguments the precondition admits, the kernel and the reference end with equal results. -/
theorem agree : Cert.algebraic_KernelIdeal_ReferenceIdeal_pre_finite_inputs := fun m g m' g' hp he => by
  have ha : ∀ c, Agree.Admitted m c := fun c => congrFun (hp c) ix0
  refine ⟨fun c => Cert.KernelIdeal.Gen.W20 m g c (Proc.devRef .tc Cert.KernelIdeal.main_v128),
    fun c => Cert.KernelIdeal.Gen.W20 m g c (Proc.devRef .tc Cert.KernelIdeal.main_v126),
    fun c => Cert.KernelIdeal.Gen.W20 m g c (Proc.devRef .tc Cert.KernelIdeal.main_v127), KernelRun.run m g, ?_⟩
  refine (θ_run Cert.ReferenceIdeal.defs _ _).mono (fun r h c => ?_) (Cert.ReferenceIdeal.Value.run (F := Ideal) m' g')
  obtain ⟨h0, h1, h2, hargs⟩ := h c
  obtain ⟨e0, e1, e2, e3, e4, e5, e6, e7, e8, e9, e10, e11⟩ := he c
  refine ⟨h0.trans ?_, h1.trans ?_, h2.trans ?_, hargs⟩
  · refine (Cert.ReferenceIdeal.Read.val_main_v170_eq (launchContents m' c)).trans (Eq.trans ?_ (Agree.result0 m g c (ha c)).symm)
    show Cert.ReferenceIdeal.Read.val_main_v170 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) (m' ((c.tc : Thread _ _).loc Cert.ReferenceIdeal.main_arg7)) (m' ((c.tc : Thread _ _).loc Cert.ReferenceIdeal.main_arg8)) (m' ((c.tc : Thread _ _).loc Cert.ReferenceIdeal.main_arg9)) (m' ((c.tc : Thread _ _).loc Cert.ReferenceIdeal.main_arg10)) (m' ((c.tc : Thread _ _).loc Cert.ReferenceIdeal.main_arg11)) = _
    rw [e0, e1, e2, e3, e4, e5, e6, e7, e8, e9, e10, e11]
  · refine (Cert.ReferenceIdeal.Read.val_main_v167_eq (launchContents m' c)).trans (Eq.trans ?_ (Agree.result1 m g c (ha c)).symm)
    show Cert.ReferenceIdeal.Read.val_main_v167 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) (m' ((c.tc : Thread _ _).loc Cert.ReferenceIdeal.main_arg7)) (m' ((c.tc : Thread _ _).loc Cert.ReferenceIdeal.main_arg8)) (m' ((c.tc : Thread _ _).loc Cert.ReferenceIdeal.main_arg9)) (m' ((c.tc : Thread _ _).loc Cert.ReferenceIdeal.main_arg10)) (m' ((c.tc : Thread _ _).loc Cert.ReferenceIdeal.main_arg11)) = _
    rw [e0, e1, e2, e3, e4, e5, e6, e7, e8, e9, e10, e11]
  · refine (Cert.ReferenceIdeal.Read.val_main_v168_eq (launchContents m' c)).trans (Eq.trans ?_ (Agree.result2 m g c (ha c)).symm)
    show Cert.ReferenceIdeal.Read.val_main_v168 (F := Ideal) (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)) (m' ((c.tc : Thread _ _).loc Cert.ReferenceIdeal.main_arg4)) (m' ((c.tc : Thread _ _).loc Cert.ReferenceIdeal.main_arg5)) (m' ((c.tc : Thread _ _).loc Cert.ReferenceIdeal.main_arg6)) (m' ((c.tc : Thread _ _).loc Cert.ReferenceIdeal.main_arg7)) (m' ((c.tc : Thread _ _).loc Cert.ReferenceIdeal.main_arg8)) (m' ((c.tc : Thread _ _).loc Cert.ReferenceIdeal.main_arg9)) (m' ((c.tc : Thread _ _).loc Cert.ReferenceIdeal.main_arg10)) (m' ((c.tc : Thread _ _).loc Cert.ReferenceIdeal.main_arg11)) = _
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  fun m g _ => Cert.Kernel.Gen.frame m g, fun m g _ => Cert.KernelIdeal.Gen.frame m g, fun m g _ => Cert.KernelIdeal.Gen.frame m g,
  frame_reference, fun m g _ => frame_reference m g trivial, trivial, agree⟩

end Cert.Proof

end
